-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S32 : Shape := ⟨1, ![32]⟩
abbrev S_ : Shape := ⟨0, ![]⟩
abbrev S1 : Shape := ⟨1, ![1]⟩
abbrev S3 : Shape := ⟨1, ![3]⟩
abbrev S2048x2048 : Shape := ⟨2, ![2048, 2048]⟩
abbrev S2x32x2048 : Shape := ⟨3, ![2, 32, 2048]⟩
abbrev S2 : Shape := ⟨1, ![2]⟩
abbrev S1x32x2048 : Shape := ⟨3, ![1, 32, 2048]⟩
abbrev S32x2048 : Shape := ⟨2, ![32, 2048]⟩

abbrev nBuf : Space → Nat
  | .hbm => 46
  | .vmem => 5
  | .smem => 1
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S3, .i32⟩
  | .hbm, ⟨45, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2x32x2048, .f32⟩
  | .local _ .vmem, ⟨4, _⟩ => ⟨S2x32x2048, .f32⟩
  | .local _ .smem, ⟨0, _⟩ => ⟨S3, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 9 20 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 8

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

@[reducible] def k0_t1_loop : Scf.Loop 32 :=
  let c0_i32_10 : BitVec 32 := 0#32
  let c31_i32 : BitVec 32 := 31#32
  let v14 : BitVec 32 := Scalar.addi c0_i32_10 c31_i32
  let c1_i32_11 : BitVec 32 := 1#32
  ⟨c0_i32_10, v14, c1_i32_11⟩
def k0_cond1 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c2_i32_39 : BitVec 32 := 2#32
  let v58 : BitVec 32 := Scalar.remsi arg18 c2_i32_39
  let c0_i32_40 : BitVec 32 := 0#32
  let v59 : BitVec 1 := Scalar.cmpi .eq v58 c0_i32_40
  let v60 : BitVec 32 := Scalar.extui v59
  let c0_i32_41 : BitVec 32 := 0#32
  let v61 : BitVec 1 := Scalar.cmpi .ne v60 c0_i32_41
  v61

def k0_off1 (v0 : BitVec 32) (k0_t1 : Fin k0_t1_loop.trips) : Fin 2 → Nat :=
  let c0_i32_10 : BitVec 32 := 0#32
  let c1_i32_11 : BitVec 32 := 1#32
  let arg18 : BitVec 32 := Scf.iv c0_i32_10 c1_i32_11 k0_t1
  let v46 : BitVec 32 := Scalar.subi v0 arg18
  let c32_i32_31 : BitVec 32 := 32#32
  let v47 : BitVec 32 := Scalar.addi v46 c32_i32_31
  let c32_i32_32 : BitVec 32 := 32#32
  let v48 : BitVec 32 := Scalar.remsi v47 c32_i32_32
  let c32_i32_47 : BitVec 32 := 32#32
  let v69 : BitVec 32 := Scalar.muli v48 c32_i32_47
  let c0_i32_57 : BitVec 32 := 0#32
  ![v69.toNat, 0]

def k0_dev3 (v2 : BitVec 32) : Nat :=
  let c0_i32_54 : BitVec 32 := 0#32
  let c1_i32_53 : BitVec 32 := 1#32
  let v72 : BitVec 32 := Scalar.muli v2 c1_i32_53
  let v73 : BitVec 32 := Scalar.addi c0_i32_54 v72
  v73.toNat
def k0_off2 (v0 : BitVec 32) (k0_t1 : Fin k0_t1_loop.trips) : Fin 2 → Nat :=
  let c1024_i32_49 : BitVec 32 := 1024#32
  let c0_i32_10 : BitVec 32 := 0#32
  let c1_i32_11 : BitVec 32 := 1#32
  let arg18 : BitVec 32 := Scf.iv c0_i32_10 c1_i32_11 k0_t1
  let v53 : BitVec 32 := Scalar.addi v0 arg18
  let c32_i32_36 : BitVec 32 := 32#32
  let v54 : BitVec 32 := Scalar.remsi v53 c32_i32_36
  let c32_i32_48 : BitVec 32 := 32#32
  let v70 : BitVec 32 := Scalar.muli v54 c32_i32_48
  let v71 : BitVec 32 := Scalar.addi c1024_i32_49 v70
  let c0_i32_65 : BitVec 32 := 0#32
  ![v71.toNat, 0]
def k0_dev4 (v1 : BitVec 32) : Nat :=
  let c0_i32_62 : BitVec 32 := 0#32
  let c1_i32_61 : BitVec 32 := 1#32
  let v81 : BitVec 32 := Scalar.muli v1 c1_i32_61
  let v82 : BitVec 32 := Scalar.addi c0_i32_62 v81
  v82.toNat
def k0_off3 (v0 : BitVec 32) (k0_t1 : Fin k0_t1_loop.trips) : Fin 2 → Nat :=
  let c0_i32_10 : BitVec 32 := 0#32
  let c1_i32_11 : BitVec 32 := 1#32
  let arg18 : BitVec 32 := Scf.iv c0_i32_10 c1_i32_11 k0_t1
  let v49 : BitVec 32 := Scalar.subi v0 arg18
  let c1_i32_33 : BitVec 32 := 1#32
  let v50 : BitVec 32 := Scalar.subi v49 c1_i32_33
  let c32_i32_34 : BitVec 32 := 32#32
  let v51 : BitVec 32 := Scalar.addi v50 c32_i32_34
  let c32_i32_35 : BitVec 32 := 32#32
  let v52 : BitVec 32 := Scalar.remsi v51 c32_i32_35
  let c32_i32_74 : BitVec 32 := 32#32
  let v97 : BitVec 32 := Scalar.muli v52 c32_i32_74
  let v98 : Index := Scalar.indexCast v97
  let c0_75 : Index := 0#32
  ![v98.toNat, 0]
def k0_cond3 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c28_i32 : BitVec 32 := 28#32
  let v106 : BitVec 1 := Scalar.cmpi .sle arg18 c28_i32
  let v107 : BitVec 32 := Scalar.extui v106
  let c0_i32_80 : BitVec 32 := 0#32
  let v108 : BitVec 1 := Scalar.cmpi .ne v107 c0_i32_80
  v108

def k0_dev5 (v1 : BitVec 32) : Nat :=
  let c0_i32_115 : BitVec 32 := 0#32
  let c1_i32_114 : BitVec 32 := 1#32
  let v141 : BitVec 32 := Scalar.muli v1 c1_i32_114
  let v142 : BitVec 32 := Scalar.addi c0_i32_115 v141
  v142.toNat
def k0_off4 (v0 : BitVec 32) (k0_t1 : Fin k0_t1_loop.trips) : Fin 2 → Nat :=
  let c1024_i32_90 : BitVec 32 := 1024#32
  let c0_i32_10 : BitVec 32 := 0#32
  let c1_i32_11 : BitVec 32 := 1#32
  let arg18 : BitVec 32 := Scf.iv c0_i32_10 c1_i32_11 k0_t1
  let v55 : BitVec 32 := Scalar.addi v0 arg18
  let c1_i32_37 : BitVec 32 := 1#32
  let v56 : BitVec 32 := Scalar.addi v55 c1_i32_37
  let c32_i32_38 : BitVec 32 := 32#32
  let v57 : BitVec 32 := Scalar.remsi v56 c32_i32_38
  let c32_i32_89 : BitVec 32 := 32#32
  let v116 : BitVec 32 := Scalar.muli v57 c32_i32_89
  let v117 : BitVec 32 := Scalar.addi c1024_i32_90 v116
  let v118 : Index := Scalar.indexCast v117
  let c0_91 : Index := 0#32
  ![v118.toNat, 0]
def k0_cond4 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c28_i32_96 : BitVec 32 := 28#32
  let v126 : BitVec 1 := Scalar.cmpi .sle arg18 c28_i32_96
  let v127 : BitVec 32 := Scalar.extui v126
  let c0_i32_97 : BitVec 32 := 0#32
  let v128 : BitVec 1 := Scalar.cmpi .ne v127 c0_i32_97
  v128

def k0_dev6 (v2 : BitVec 32) : Nat :=
  let c0_i32_115 : BitVec 32 := 0#32
  let c1_i32_114 : BitVec 32 := 1#32
  let v141 : BitVec 32 := Scalar.muli v2 c1_i32_114
  let v142 : BitVec 32 := Scalar.addi c0_i32_115 v141
  v142.toNat
def k0_cond5 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c2_i32_42 : BitVec 32 := 2#32
  let v62 : BitVec 32 := Scalar.remsi arg18 c2_i32_42
  let c1_i32_43 : BitVec 32 := 1#32
  let v63 : BitVec 1 := Scalar.cmpi .eq v62 c1_i32_43
  let v64 : BitVec 32 := Scalar.extui v63
  let c0_i32_44 : BitVec 32 := 0#32
  let v65 : BitVec 1 := Scalar.cmpi .ne v64 c0_i32_44
  v65

def k0_off5 (v0 : BitVec 32) (k0_t1 : Fin k0_t1_loop.trips) : Fin 2 → Nat :=
  let c0_i32_10 : BitVec 32 := 0#32
  let c1_i32_11 : BitVec 32 := 1#32
  let arg18 : BitVec 32 := Scf.iv c0_i32_10 c1_i32_11 k0_t1
  let v46 : BitVec 32 := Scalar.subi v0 arg18
  let c32_i32_31 : BitVec 32 := 32#32
  let v47 : BitVec 32 := Scalar.addi v46 c32_i32_31
  let c32_i32_32 : BitVec 32 := 32#32
  let v48 : BitVec 32 := Scalar.remsi v47 c32_i32_32
  let c32_i32_47 : BitVec 32 := 32#32
  let v69 : BitVec 32 := Scalar.muli v48 c32_i32_47
  let c0_i32_57 : BitVec 32 := 0#32
  ![v69.toNat, 0]
def k0_dev7 (v2 : BitVec 32) : Nat :=
  let c0_i32_54 : BitVec 32 := 0#32
  let c1_i32_53 : BitVec 32 := 1#32
  let v72 : BitVec 32 := Scalar.muli v2 c1_i32_53
  let v73 : BitVec 32 := Scalar.addi c0_i32_54 v72
  v73.toNat
def k0_off6 (v0 : BitVec 32) (k0_t1 : Fin k0_t1_loop.trips) : Fin 2 → Nat :=
  let c1024_i32_49 : BitVec 32 := 1024#32
  let c0_i32_10 : BitVec 32 := 0#32
  let c1_i32_11 : BitVec 32 := 1#32
  let arg18 : BitVec 32 := Scf.iv c0_i32_10 c1_i32_11 k0_t1
  let v53 : BitVec 32 := Scalar.addi v0 arg18
  let c32_i32_36 : BitVec 32 := 32#32
  let v54 : BitVec 32 := Scalar.remsi v53 c32_i32_36
  let c32_i32_48 : BitVec 32 := 32#32
  let v70 : BitVec 32 := Scalar.muli v54 c32_i32_48
  let v71 : BitVec 32 := Scalar.addi c1024_i32_49 v70
  let c0_i32_65 : BitVec 32 := 0#32
  ![v71.toNat, 0]
def k0_dev8 (v1 : BitVec 32) : Nat :=
  let c0_i32_62 : BitVec 32 := 0#32
  let c1_i32_61 : BitVec 32 := 1#32
  let v81 : BitVec 32 := Scalar.muli v1 c1_i32_61
  let v82 : BitVec 32 := Scalar.addi c0_i32_62 v81
  v82.toNat
def k0_off7 (v0 : BitVec 32) (k0_t1 : Fin k0_t1_loop.trips) : Fin 2 → Nat :=
  let c0_i32_10 : BitVec 32 := 0#32
  let c1_i32_11 : BitVec 32 := 1#32
  let arg18 : BitVec 32 := Scf.iv c0_i32_10 c1_i32_11 k0_t1
  let v49 : BitVec 32 := Scalar.subi v0 arg18
  let c1_i32_33 : BitVec 32 := 1#32
  let v50 : BitVec 32 := Scalar.subi v49 c1_i32_33
  let c32_i32_34 : BitVec 32 := 32#32
  let v51 : BitVec 32 := Scalar.addi v50 c32_i32_34
  let c32_i32_35 : BitVec 32 := 32#32
  let v52 : BitVec 32 := Scalar.remsi v51 c32_i32_35
  let c32_i32_74 : BitVec 32 := 32#32
  let v97 : BitVec 32 := Scalar.muli v52 c32_i32_74
  let v98 : Index := Scalar.indexCast v97
  let c0_75 : Index := 0#32
  ![v98.toNat, 0]
def k0_cond7 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c28_i32 : BitVec 32 := 28#32
  let v106 : BitVec 1 := Scalar.cmpi .sle arg18 c28_i32
  let v107 : BitVec 32 := Scalar.extui v106
  let c0_i32_80 : BitVec 32 := 0#32
  let v108 : BitVec 1 := Scalar.cmpi .ne v107 c0_i32_80
  v108

def k0_dev9 (v1 : BitVec 32) : Nat :=
  let c0_i32_115 : BitVec 32 := 0#32
  let c1_i32_114 : BitVec 32 := 1#32
  let v141 : BitVec 32 := Scalar.muli v1 c1_i32_114
  let v142 : BitVec 32 := Scalar.addi c0_i32_115 v141
  v142.toNat
def k0_off8 (v0 : BitVec 32) (k0_t1 : Fin k0_t1_loop.trips) : Fin 2 → Nat :=
  let c1024_i32_90 : BitVec 32 := 1024#32
  let c0_i32_10 : BitVec 32 := 0#32
  let c1_i32_11 : BitVec 32 := 1#32
  let arg18 : BitVec 32 := Scf.iv c0_i32_10 c1_i32_11 k0_t1
  let v55 : BitVec 32 := Scalar.addi v0 arg18
  let c1_i32_37 : BitVec 32 := 1#32
  let v56 : BitVec 32 := Scalar.addi v55 c1_i32_37
  let c32_i32_38 : BitVec 32 := 32#32
  let v57 : BitVec 32 := Scalar.remsi v56 c32_i32_38
  let c32_i32_89 : BitVec 32 := 32#32
  let v116 : BitVec 32 := Scalar.muli v57 c32_i32_89
  let v117 : BitVec 32 := Scalar.addi c1024_i32_90 v116
  let v118 : Index := Scalar.indexCast v117
  let c0_91 : Index := 0#32
  ![v118.toNat, 0]
def k0_cond8 (k0_t1 : Fin k0_t1_loop.trips) : BitVec 1 :=
  let c0_i32_10 : BitVec 32 := 0#32
  let c1_i32_11 : BitVec 32 := 1#32
  let arg18 : BitVec 32 := Scf.iv c0_i32_10 c1_i32_11 k0_t1
  let c28_i32_96 : BitVec 32 := 28#32
  let v126 : BitVec 1 := Scalar.cmpi .sle arg18 c28_i32_96
  let v127 : BitVec 32 := Scalar.extui v126
  let c0_i32_97 : BitVec 32 := 0#32
  let v128 : BitVec 1 := Scalar.cmpi .ne v127 c0_i32_97
  v128

def k0_dev10 (v2 : BitVec 32) : Nat :=
  let c0_i32_115 : BitVec 32 := 0#32
  let c1_i32_114 : BitVec 32 := 1#32
  let v141 : BitVec 32 := Scalar.muli v2 c1_i32_114
  let v142 : BitVec 32 := Scalar.addi c0_i32_115 v141
  v142.toNat
def k0_off9 (v0 : BitVec 32) : Fin 2 → Nat :=
  let c1_i32_13 : BitVec 32 := 1#32
  let v15 : BitVec 32 := Scalar.addi v0 c1_i32_13
  let c32_i32 : BitVec 32 := 32#32
  let v16 : BitVec 32 := Scalar.remsi v15 c32_i32
  let c32_i32_14 : BitVec 32 := 32#32
  let v17 : BitVec 32 := Scalar.muli v16 c32_i32_14
  let v23 : Index := Scalar.indexCast v17
  let c0_19 : Index := 0#32
  ![v23.toNat, 0]
def k0_off10 (v0 : BitVec 32) : Fin 2 → Nat :=
  let c1024_i32 : BitVec 32 := 1024#32
  let c32_i32_15 : BitVec 32 := 32#32
  let v18 : BitVec 32 := Scalar.addi v0 c32_i32_15
  let c1_i32_16 : BitVec 32 := 1#32
  let v19 : BitVec 32 := Scalar.subi v18 c1_i32_16
  let c32_i32_17 : BitVec 32 := 32#32
  let v20 : BitVec 32 := Scalar.remsi v19 c32_i32_17
  let c32_i32_18 : BitVec 32 := 32#32
  let v21 : BitVec 32 := Scalar.muli v20 c32_i32_18
  let v22 : BitVec 32 := Scalar.addi c1024_i32 v21
  let v34 : Index := Scalar.indexCast v22
  let c0_23 : Index := 0#32
  ![v34.toNat, 0]
@[reducible] def k0_t2_loop : Scf.Loop 32 :=
  let c0_i32_27 : BitVec 32 := 0#32
  let c31_i32_28 : BitVec 32 := 31#32
  let v45 : BitVec 32 := Scalar.addi c0_i32_27 c31_i32_28
  let c1_i32_29 : BitVec 32 := 1#32
  ⟨c0_i32_27, v45, c1_i32_29⟩
def k0_cond9 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c2_i32_37 : BitVec 32 := 2#32
  let v54 : BitVec 32 := Scalar.remsi arg18 c2_i32_37
  let c0_i32_38 : BitVec 32 := 0#32
  let v55 : BitVec 1 := Scalar.cmpi .eq v54 c0_i32_38
  let v56 : BitVec 32 := Scalar.extui v55
  let c0_i32_39 : BitVec 32 := 0#32
  let v57 : BitVec 1 := Scalar.cmpi .ne v56 c0_i32_39
  v57

def k0_off11 (v0 : BitVec 32) (k0_t2 : Fin k0_t2_loop.trips) : Fin 2 → Nat :=
  let c1_i32_31 : BitVec 32 := 1#32
  let v46 : BitVec 32 := Scalar.addi v0 c1_i32_31
  let c0_i32_27 : BitVec 32 := 0#32
  let c1_i32_29 : BitVec 32 := 1#32
  let arg18 : BitVec 32 := Scf.iv c0_i32_27 c1_i32_29 k0_t2
  let v47 : BitVec 32 := Scalar.subi v46 arg18
  let c32_i32_32 : BitVec 32 := 32#32
  let v48 : BitVec 32 := Scalar.addi v47 c32_i32_32
  let c32_i32_33 : BitVec 32 := 32#32
  let v49 : BitVec 32 := Scalar.remsi v48 c32_i32_33
  let c32_i32_45 : BitVec 32 := 32#32
  let v65 : BitVec 32 := Scalar.muli v49 c32_i32_45
  let c0_i32_52 : BitVec 32 := 0#32
  ![v65.toNat, 0]
def k0_dev11 (v2 : BitVec 32) : Nat :=
  let c0_i32_51 : BitVec 32 := 0#32
  let c1_i32_50 : BitVec 32 := 1#32
  let v68 : BitVec 32 := Scalar.muli v2 c1_i32_50
  let v69 : BitVec 32 := Scalar.addi c0_i32_51 v68
  v69.toNat
def k0_off12 (v0 : BitVec 32) (k0_t2 : Fin k0_t2_loop.trips) : Fin 2 → Nat :=
  let c1024_i32_47 : BitVec 32 := 1024#32
  let c1_i32_34 : BitVec 32 := 1#32
  let v50 : BitVec 32 := Scalar.subi v0 c1_i32_34
  let c0_i32_27 : BitVec 32 := 0#32
  let c1_i32_29 : BitVec 32 := 1#32
  let arg18 : BitVec 32 := Scf.iv c0_i32_27 c1_i32_29 k0_t2
  let v51 : BitVec 32 := Scalar.addi v50 arg18
  let c32_i32_35 : BitVec 32 := 32#32
  let v52 : BitVec 32 := Scalar.addi v51 c32_i32_35
  let c32_i32_36 : BitVec 32 := 32#32
  let v53 : BitVec 32 := Scalar.remsi v52 c32_i32_36
  let c32_i32_46 : BitVec 32 := 32#32
  let v66 : BitVec 32 := Scalar.muli v53 c32_i32_46
  let v67 : BitVec 32 := Scalar.addi c1024_i32_47 v66
  let c0_i32_58 : BitVec 32 := 0#32
  ![v67.toNat, 0]
def k0_dev12 (v1 : BitVec 32) : Nat :=
  let c0_i32_57 : BitVec 32 := 0#32
  let c1_i32_56 : BitVec 32 := 1#32
  let v76 : BitVec 32 := Scalar.muli v1 c1_i32_56
  let v77 : BitVec 32 := Scalar.addi c0_i32_57 v76
  v77.toNat
def k0_cond11 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c28_i32 : BitVec 32 := 28#32
  let v90 : BitVec 1 := Scalar.cmpi .sle arg18 c28_i32
  let v91 : BitVec 32 := Scalar.extui v90
  let c0_i32_66 : BitVec 32 := 0#32
  let v92 : BitVec 1 := Scalar.cmpi .ne v91 c0_i32_66
  v92

def k0_dev13 (v1 : BitVec 32) : Nat :=
  let c0_i32_88 : BitVec 32 := 0#32
  let c1_i32_87 : BitVec 32 := 1#32
  let v112 : BitVec 32 := Scalar.muli v1 c1_i32_87
  let v113 : BitVec 32 := Scalar.addi c0_i32_88 v112
  v113.toNat
def k0_cond12 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c28_i32_73 : BitVec 32 := 28#32
  let v99 : BitVec 1 := Scalar.cmpi .sle arg18 c28_i32_73
  let v100 : BitVec 32 := Scalar.extui v99
  let c0_i32_74 : BitVec 32 := 0#32
  let v101 : BitVec 1 := Scalar.cmpi .ne v100 c0_i32_74
  v101

def k0_dev14 (v2 : BitVec 32) : Nat :=
  let c0_i32_88 : BitVec 32 := 0#32
  let c1_i32_87 : BitVec 32 := 1#32
  let v112 : BitVec 32 := Scalar.muli v2 c1_i32_87
  let v113 : BitVec 32 := Scalar.addi c0_i32_88 v112
  v113.toNat
def k0_cond13 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c2_i32_40 : BitVec 32 := 2#32
  let v58 : BitVec 32 := Scalar.remsi arg18 c2_i32_40
  let c1_i32_41 : BitVec 32 := 1#32
  let v59 : BitVec 1 := Scalar.cmpi .eq v58 c1_i32_41
  let v60 : BitVec 32 := Scalar.extui v59
  let c0_i32_42 : BitVec 32 := 0#32
  let v61 : BitVec 1 := Scalar.cmpi .ne v60 c0_i32_42
  v61

def k0_off13 (v0 : BitVec 32) (k0_t2 : Fin k0_t2_loop.trips) : Fin 2 → Nat :=
  let c1_i32_31 : BitVec 32 := 1#32
  let v46 : BitVec 32 := Scalar.addi v0 c1_i32_31
  let c0_i32_27 : BitVec 32 := 0#32
  let c1_i32_29 : BitVec 32 := 1#32
  let arg18 : BitVec 32 := Scf.iv c0_i32_27 c1_i32_29 k0_t2
  let v47 : BitVec 32 := Scalar.subi v46 arg18
  let c32_i32_32 : BitVec 32 := 32#32
  let v48 : BitVec 32 := Scalar.addi v47 c32_i32_32
  let c32_i32_33 : BitVec 32 := 32#32
  let v49 : BitVec 32 := Scalar.remsi v48 c32_i32_33
  let c32_i32_45 : BitVec 32 := 32#32
  let v65 : BitVec 32 := Scalar.muli v49 c32_i32_45
  let c0_i32_52 : BitVec 32 := 0#32
  ![v65.toNat, 0]
def k0_dev15 (v2 : BitVec 32) : Nat :=
  let c0_i32_51 : BitVec 32 := 0#32
  let c1_i32_50 : BitVec 32 := 1#32
  let v68 : BitVec 32 := Scalar.muli v2 c1_i32_50
  let v69 : BitVec 32 := Scalar.addi c0_i32_51 v68
  v69.toNat
def k0_off14 (v0 : BitVec 32) (k0_t2 : Fin k0_t2_loop.trips) : Fin 2 → Nat :=
  let c1024_i32_47 : BitVec 32 := 1024#32
  let c1_i32_34 : BitVec 32 := 1#32
  let v50 : BitVec 32 := Scalar.subi v0 c1_i32_34
  let c0_i32_27 : BitVec 32 := 0#32
  let c1_i32_29 : BitVec 32 := 1#32
  let arg18 : BitVec 32 := Scf.iv c0_i32_27 c1_i32_29 k0_t2
  let v51 : BitVec 32 := Scalar.addi v50 arg18
  let c32_i32_35 : BitVec 32 := 32#32
  let v52 : BitVec 32 := Scalar.addi v51 c32_i32_35
  let c32_i32_36 : BitVec 32 := 32#32
  let v53 : BitVec 32 := Scalar.remsi v52 c32_i32_36
  let c32_i32_46 : BitVec 32 := 32#32
  let v66 : BitVec 32 := Scalar.muli v53 c32_i32_46
  let v67 : BitVec 32 := Scalar.addi c1024_i32_47 v66
  let c0_i32_58 : BitVec 32 := 0#32
  ![v67.toNat, 0]

def k0_chk3 (v0 : BitVec 32) : Prop :=
  (∀ k0_t1 : Fin k0_t1_loop.trips, ∀ (k0_h1 : k0_cond1 k0_t1 = 1#1), ∀ a, (k0_off1 v0 k0_t1) a + S32x2048.size a ≤ S2048x2048.size a) ∧
  (∀ k0_t1 : Fin k0_t1_loop.trips, ∀ (k0_h1 : k0_cond1 k0_t1 = 1#1), ∀ a, (k0_off2 v0 k0_t1) a + S32x2048.size a ≤ S2048x2048.size a) ∧
  (∀ k0_t1 : Fin k0_t1_loop.trips, ∀ (k0_h1 : k0_cond1 k0_t1 = 1#1), ∀ a, (k0_off3 v0 k0_t1) a + S32x2048.size a ≤ S2048x2048.size a) ∧
  (∀ k0_t1 : Fin k0_t1_loop.trips, ∀ (k0_h1 : k0_cond1 k0_t1 = 1#1), ∀ a, (k0_off4 v0 k0_t1) a + S32x2048.size a ≤ S2048x2048.size a) ∧
  (∀ k0_t1 : Fin k0_t1_loop.trips, ∀ (k0_h5 : k0_cond5 k0_t1 = 1#1), ∀ a, (k0_off5 v0 k0_t1) a + S32x2048.size a ≤ S2048x2048.size a) ∧
  (∀ k0_t1 : Fin k0_t1_loop.trips, ∀ (k0_h5 : k0_cond5 k0_t1 = 1#1), ∀ a, (k0_off6 v0 k0_t1) a + S32x2048.size a ≤ S2048x2048.size a) ∧
  (∀ k0_t1 : Fin k0_t1_loop.trips, ∀ (k0_h5 : k0_cond5 k0_t1 = 1#1), ∀ a, (k0_off7 v0 k0_t1) a + S32x2048.size a ≤ S2048x2048.size a) ∧
  (∀ k0_t1 : Fin k0_t1_loop.trips, ∀ (k0_h5 : k0_cond5 k0_t1 = 1#1), ∀ a, (k0_off8 v0 k0_t1) a + S32x2048.size a ≤ S2048x2048.size a) ∧
  (∀ a, (k0_off9 v0) a + S32x2048.size a ≤ S2048x2048.size a) ∧
  (∀ a, (k0_off10 v0) a + S32x2048.size a ≤ S2048x2048.size a) ∧
  (∀ k0_t2 : Fin k0_t2_loop.trips, ∀ (k0_h9 : k0_cond9 k0_t2 = 1#1), ∀ a, (k0_off11 v0 k0_t2) a + S32x2048.size a ≤ S2048x2048.size a) ∧
  (∀ k0_t2 : Fin k0_t2_loop.trips, ∀ (k0_h9 : k0_cond9 k0_t2 = 1#1), ∀ a, (k0_off12 v0 k0_t2) a + S32x2048.size a ≤ S2048x2048.size a) ∧
  (∀ k0_t2 : Fin k0_t2_loop.trips, ∀ (k0_h13 : k0_cond13 k0_t2 = 1#1), ∀ a, (k0_off13 v0 k0_t2) a + S32x2048.size a ≤ S2048x2048.size a) ∧
  (∀ k0_t2 : Fin k0_t2_loop.trips, ∀ (k0_h13 : k0_cond13 k0_t2 = 1#1), ∀ a, (k0_off14 v0 k0_t2) a + S32x2048.size a ≤ S2048x2048.size a)
theorem k0_off1_inb : ∀ (v0 : BitVec 32) (k0_hw3 : k0_chk3 v0) (k0_t1 : Fin k0_t1_loop.trips), ∀ (k0_h1 : k0_cond1 k0_t1 = 1#1), ∀ a, (k0_off1 v0 k0_t1) a + S32x2048.size a ≤ S2048x2048.size a := fun v0 k0_hw3 k0_t1 k0_h1 => k0_hw3.1 k0_t1 k0_h1
theorem k0_off2_inb : ∀ (v0 : BitVec 32) (k0_hw3 : k0_chk3 v0) (k0_t1 : Fin k0_t1_loop.trips), ∀ (k0_h1 : k0_cond1 k0_t1 = 1#1), ∀ a, (k0_off2 v0 k0_t1) a + S32x2048.size a ≤ S2048x2048.size a := fun v0 k0_hw3 k0_t1 k0_h1 => k0_hw3.2.1 k0_t1 k0_h1
theorem k0_off3_inb : ∀ (v0 : BitVec 32) (k0_hw3 : k0_chk3 v0) (k0_t1 : Fin k0_t1_loop.trips), ∀ (k0_h1 : k0_cond1 k0_t1 = 1#1), ∀ a, (k0_off3 v0 k0_t1) a + S32x2048.size a ≤ S2048x2048.size a := fun v0 k0_hw3 k0_t1 k0_h1 => k0_hw3.2.2.1 k0_t1 k0_h1
theorem k0_off4_inb : ∀ (v0 : BitVec 32) (k0_hw3 : k0_chk3 v0) (k0_t1 : Fin k0_t1_loop.trips), ∀ (k0_h1 : k0_cond1 k0_t1 = 1#1), ∀ a, (k0_off4 v0 k0_t1) a + S32x2048.size a ≤ S2048x2048.size a := fun v0 k0_hw3 k0_t1 k0_h1 => k0_hw3.2.2.2.1 k0_t1 k0_h1
theorem k0_off5_inb : ∀ (v0 : BitVec 32) (k0_hw3 : k0_chk3 v0) (k0_t1 : Fin k0_t1_loop.trips), ∀ (k0_h5 : k0_cond5 k0_t1 = 1#1), ∀ a, (k0_off5 v0 k0_t1) a + S32x2048.size a ≤ S2048x2048.size a := fun v0 k0_hw3 k0_t1 k0_h5 => k0_hw3.2.2.2.2.1 k0_t1 k0_h5
theorem k0_off6_inb : ∀ (v0 : BitVec 32) (k0_hw3 : k0_chk3 v0) (k0_t1 : Fin k0_t1_loop.trips), ∀ (k0_h5 : k0_cond5 k0_t1 = 1#1), ∀ a, (k0_off6 v0 k0_t1) a + S32x2048.size a ≤ S2048x2048.size a := fun v0 k0_hw3 k0_t1 k0_h5 => k0_hw3.2.2.2.2.2.1 k0_t1 k0_h5
theorem k0_off7_inb : ∀ (v0 : BitVec 32) (k0_hw3 : k0_chk3 v0) (k0_t1 : Fin k0_t1_loop.trips), ∀ (k0_h5 : k0_cond5 k0_t1 = 1#1), ∀ a, (k0_off7 v0 k0_t1) a + S32x2048.size a ≤ S2048x2048.size a := fun v0 k0_hw3 k0_t1 k0_h5 => k0_hw3.2.2.2.2.2.2.1 k0_t1 k0_h5
theorem k0_off8_inb : ∀ (v0 : BitVec 32) (k0_hw3 : k0_chk3 v0) (k0_t1 : Fin k0_t1_loop.trips), ∀ (k0_h5 : k0_cond5 k0_t1 = 1#1), ∀ a, (k0_off8 v0 k0_t1) a + S32x2048.size a ≤ S2048x2048.size a := fun v0 k0_hw3 k0_t1 k0_h5 => k0_hw3.2.2.2.2.2.2.2.1 k0_t1 k0_h5
theorem k0_off9_inb : ∀ (v0 : BitVec 32) (k0_hw3 : k0_chk3 v0), ∀ a, (k0_off9 v0) a + S32x2048.size a ≤ S2048x2048.size a := fun v0 k0_hw3 => k0_hw3.2.2.2.2.2.2.2.2.1
theorem k0_off10_inb : ∀ (v0 : BitVec 32) (k0_hw3 : k0_chk3 v0), ∀ a, (k0_off10 v0) a + S32x2048.size a ≤ S2048x2048.size a := fun v0 k0_hw3 => k0_hw3.2.2.2.2.2.2.2.2.2.1
theorem k0_off11_inb : ∀ (v0 : BitVec 32) (k0_hw3 : k0_chk3 v0) (k0_t2 : Fin k0_t2_loop.trips), ∀ (k0_h9 : k0_cond9 k0_t2 = 1#1), ∀ a, (k0_off11 v0 k0_t2) a + S32x2048.size a ≤ S2048x2048.size a := fun v0 k0_hw3 k0_t2 k0_h9 => k0_hw3.2.2.2.2.2.2.2.2.2.2.1 k0_t2 k0_h9
theorem k0_off12_inb : ∀ (v0 : BitVec 32) (k0_hw3 : k0_chk3 v0) (k0_t2 : Fin k0_t2_loop.trips), ∀ (k0_h9 : k0_cond9 k0_t2 = 1#1), ∀ a, (k0_off12 v0 k0_t2) a + S32x2048.size a ≤ S2048x2048.size a := fun v0 k0_hw3 k0_t2 k0_h9 => k0_hw3.2.2.2.2.2.2.2.2.2.2.2.1 k0_t2 k0_h9
theorem k0_off13_inb : ∀ (v0 : BitVec 32) (k0_hw3 : k0_chk3 v0) (k0_t2 : Fin k0_t2_loop.trips), ∀ (k0_h13 : k0_cond13 k0_t2 = 1#1), ∀ a, (k0_off13 v0 k0_t2) a + S32x2048.size a ≤ S2048x2048.size a := fun v0 k0_hw3 k0_t2 k0_h13 => k0_hw3.2.2.2.2.2.2.2.2.2.2.2.2.1 k0_t2 k0_h13
theorem k0_off14_inb : ∀ (v0 : BitVec 32) (k0_hw3 : k0_chk3 v0) (k0_t2 : Fin k0_t2_loop.trips), ∀ (k0_h13 : k0_cond13 k0_t2 = 1#1), ∀ a, (k0_off14 v0 k0_t2) a + S32x2048.size a ≤ S2048x2048.size a := fun v0 k0_hw3 k0_t2 k0_h13 => k0_hw3.2.2.2.2.2.2.2.2.2.2.2.2.2 k0_t2 k0_h13

def k0_dev16 (v1 : BitVec 32) : Nat :=
  let c0_i32_57 : BitVec 32 := 0#32
  let c1_i32_56 : BitVec 32 := 1#32
  let v76 : BitVec 32 := Scalar.muli v1 c1_i32_56
  let v77 : BitVec 32 := Scalar.addi c0_i32_57 v76
  v77.toNat
def k0_cond15 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c28_i32 : BitVec 32 := 28#32
  let v90 : BitVec 1 := Scalar.cmpi .sle arg18 c28_i32
  let v91 : BitVec 32 := Scalar.extui v90
  let c0_i32_66 : BitVec 32 := 0#32
  let v92 : BitVec 1 := Scalar.cmpi .ne v91 c0_i32_66
  v92

def k0_dev17 (v1 : BitVec 32) : Nat :=
  let c0_i32_88 : BitVec 32 := 0#32
  let c1_i32_87 : BitVec 32 := 1#32
  let v112 : BitVec 32 := Scalar.muli v1 c1_i32_87
  let v113 : BitVec 32 := Scalar.addi c0_i32_88 v112
  v113.toNat

def k0_chk1 (v1 : BitVec 32) : Prop :=
  ((k0_dev1 v1) < nD) ∧
  (∀ k0_t1 : Fin k0_t1_loop.trips, ∀ (k0_h1 : k0_cond1 k0_t1 = 1#1), (k0_dev4 v1) < nD) ∧
  (∀ k0_t1 : Fin k0_t1_loop.trips, ∀ (k0_h1 : k0_cond1 k0_t1 = 1#1), ∀ (k0_h3 : k0_cond3 k0_t1 = 1#1), (k0_dev5 v1) < nD) ∧
  (∀ k0_t1 : Fin k0_t1_loop.trips, ∀ (k0_h5 : k0_cond5 k0_t1 = 1#1), (k0_dev8 v1) < nD) ∧
  (∀ k0_t1 : Fin k0_t1_loop.trips, ∀ (k0_h5 : k0_cond5 k0_t1 = 1#1), ∀ (k0_h7 : k0_cond7 k0_t1 = 1#1), (k0_dev9 v1) < nD) ∧
  (∀ k0_t2 : Fin k0_t2_loop.trips, ∀ (k0_h9 : k0_cond9 k0_t2 = 1#1), (k0_dev12 v1) < nD) ∧
  (∀ k0_t2 : Fin k0_t2_loop.trips, ∀ (k0_h9 : k0_cond9 k0_t2 = 1#1), ∀ (k0_h11 : k0_cond11 k0_t2 = 1#1), (k0_dev13 v1) < nD) ∧
  (∀ k0_t2 : Fin k0_t2_loop.trips, ∀ (k0_h13 : k0_cond13 k0_t2 = 1#1), (k0_dev16 v1) < nD) ∧
  (∀ k0_t2 : Fin k0_t2_loop.trips, ∀ (k0_h13 : k0_cond13 k0_t2 = 1#1), ∀ (k0_h15 : k0_cond15 k0_t2 = 1#1), (k0_dev17 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1) (k0_t1 : Fin k0_t1_loop.trips), ∀ (k0_h1 : k0_cond1 k0_t1 = 1#1), (k0_dev4 v1) < nD := fun v1 k0_hw1 k0_t1 k0_h1 => k0_hw1.2.1 k0_t1 k0_h1
theorem k0_dev5_lt : ∀ (v1 : BitVec 32) (k0_hw1 : k0_chk1 v1) (k0_t1 : Fin k0_t1_loop.trips), ∀ (k0_h1 : k0_cond1 k0_t1 = 1#1), ∀ (k0_h3 : k0_cond3 k0_t1 = 1#1), (k0_dev5 v1) < nD := fun v1 k0_hw1 k0_t1 k0_h1 k0_h3 => k0_hw1.2.2.1 k0_t1 k0_h1 k0_h3
theorem k0_dev8_lt : ∀ (v1 : BitVec 32) (k0_hw1 : k0_chk1 v1) (k0_t1 : Fin k0_t1_loop.trips), ∀ (k0_h5 : k0_cond5 k0_t1 = 1#1), (k0_dev8 v1) < nD := fun v1 k0_hw1 k0_t1 k0_h5 => k0_hw1.2.2.2.1 k0_t1 k0_h5
theorem k0_dev9_lt : ∀ (v1 : BitVec 32) (k0_hw1 : k0_chk1 v1) (k0_t1 : Fin k0_t1_loop.trips), ∀ (k0_h5 : k0_cond5 k0_t1 = 1#1), ∀ (k0_h7 : k0_cond7 k0_t1 = 1#1), (k0_dev9 v1) < nD := fun v1 k0_hw1 k0_t1 k0_h5 k0_h7 => k0_hw1.2.2.2.2.1 k0_t1 k0_h5 k0_h7
theorem k0_dev12_lt : ∀ (v1 : BitVec 32) (k0_hw1 : k0_chk1 v1) (k0_t2 : Fin k0_t2_loop.trips), ∀ (k0_h9 : k0_cond9 k0_t2 = 1#1), (k0_dev12 v1) < nD := fun v1 k0_hw1 k0_t2 k0_h9 => k0_hw1.2.2.2.2.2.1 k0_t2 k0_h9
theorem k0_dev13_lt : ∀ (v1 : BitVec 32) (k0_hw1 : k0_chk1 v1) (k0_t2 : Fin k0_t2_loop.trips), ∀ (k0_h9 : k0_cond9 k0_t2 = 1#1), ∀ (k0_h11 : k0_cond11 k0_t2 = 1#1), (k0_dev13 v1) < nD := fun v1 k0_hw1 k0_t2 k0_h9 k0_h11 => k0_hw1.2.2.2.2.2.2.1 k0_t2 k0_h9 k0_h11
theorem k0_dev16_lt : ∀ (v1 : BitVec 32) (k0_hw1 : k0_chk1 v1) (k0_t2 : Fin k0_t2_loop.trips), ∀ (k0_h13 : k0_cond13 k0_t2 = 1#1), (k0_dev16 v1) < nD := fun v1 k0_hw1 k0_t2 k0_h13 => k0_hw1.2.2.2.2.2.2.2.1 k0_t2 k0_h13
theorem k0_dev17_lt : ∀ (v1 : BitVec 32) (k0_hw1 : k0_chk1 v1) (k0_t2 : Fin k0_t2_loop.trips), ∀ (k0_h13 : k0_cond13 k0_t2 = 1#1), ∀ (k0_h15 : k0_cond15 k0_t2 = 1#1), (k0_dev17 v1) < nD := fun v1 k0_hw1 k0_t2 k0_h13 k0_h15 => k0_hw1.2.2.2.2.2.2.2.2 k0_t2 k0_h13 k0_h15

def k0_cond16 (k0_t2 : Fin k0_t2_loop.trips) : BitVec 1 :=
  let c0_i32_27 : BitVec 32 := 0#32
  let c1_i32_29 : BitVec 32 := 1#32
  let arg18 : BitVec 32 := Scf.iv c0_i32_27 c1_i32_29 k0_t2
  let c28_i32_73 : BitVec 32 := 28#32
  let v99 : BitVec 1 := Scalar.cmpi .sle arg18 c28_i32_73
  let v100 : BitVec 32 := Scalar.extui v99
  let c0_i32_74 : BitVec 32 := 0#32
  let v101 : BitVec 1 := Scalar.cmpi .ne v100 c0_i32_74
  v101

def k0_dev18 (v2 : BitVec 32) : Nat :=
  let c0_i32_88 : BitVec 32 := 0#32
  let c1_i32_87 : BitVec 32 := 1#32
  let v112 : BitVec 32 := Scalar.muli v2 c1_i32_87
  let v113 : BitVec 32 := Scalar.addi c0_i32_88 v112
  v113.toNat

def k0_chk2 (v2 : BitVec 32) : Prop :=
  ((k0_dev2 v2) < nD) ∧
  (∀ k0_t1 : Fin k0_t1_loop.trips, ∀ (k0_h1 : k0_cond1 k0_t1 = 1#1), (k0_dev3 v2) < nD) ∧
  (∀ k0_t1 : Fin k0_t1_loop.trips, ∀ (k0_h1 : k0_cond1 k0_t1 = 1#1), ∀ (k0_h4 : k0_cond4 k0_t1 = 1#1), (k0_dev6 v2) < nD) ∧
  (∀ k0_t1 : Fin k0_t1_loop.trips, ∀ (k0_h5 : k0_cond5 k0_t1 = 1#1), (k0_dev7 v2) < nD) ∧
  (∀ k0_t1 : Fin k0_t1_loop.trips, ∀ (k0_h5 : k0_cond5 k0_t1 = 1#1), ∀ (k0_h8 : k0_cond8 k0_t1 = 1#1), (k0_dev10 v2) < nD) ∧
  (∀ k0_t2 : Fin k0_t2_loop.trips, ∀ (k0_h9 : k0_cond9 k0_t2 = 1#1), (k0_dev11 v2) < nD) ∧
  (∀ k0_t2 : Fin k0_t2_loop.trips, ∀ (k0_h9 : k0_cond9 k0_t2 = 1#1), ∀ (k0_h12 : k0_cond12 k0_t2 = 1#1), (k0_dev14 v2) < nD) ∧
  (∀ k0_t2 : Fin k0_t2_loop.trips, ∀ (k0_h13 : k0_cond13 k0_t2 = 1#1), (k0_dev15 v2) < nD) ∧
  (∀ k0_t2 : Fin k0_t2_loop.trips, ∀ (k0_h13 : k0_cond13 k0_t2 = 1#1), ∀ (k0_h16 : k0_cond16 k0_t2 = 1#1), (k0_dev18 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2) (k0_t1 : Fin k0_t1_loop.trips), ∀ (k0_h1 : k0_cond1 k0_t1 = 1#1), (k0_dev3 v2) < nD := fun v2 k0_hw2 k0_t1 k0_h1 => k0_hw2.2.1 k0_t1 k0_h1
theorem k0_dev6_lt : ∀ (v2 : BitVec 32) (k0_hw2 : k0_chk2 v2) (k0_t1 : Fin k0_t1_loop.trips), ∀ (k0_h1 : k0_cond1 k0_t1 = 1#1), ∀ (k0_h4 : k0_cond4 k0_t1 = 1#1), (k0_dev6 v2) < nD := fun v2 k0_hw2 k0_t1 k0_h1 k0_h4 => k0_hw2.2.2.1 k0_t1 k0_h1 k0_h4
theorem k0_dev7_lt : ∀ (v2 : BitVec 32) (k0_hw2 : k0_chk2 v2) (k0_t1 : Fin k0_t1_loop.trips), ∀ (k0_h5 : k0_cond5 k0_t1 = 1#1), (k0_dev7 v2) < nD := fun v2 k0_hw2 k0_t1 k0_h5 => k0_hw2.2.2.2.1 k0_t1 k0_h5
theorem k0_dev10_lt : ∀ (v2 : BitVec 32) (k0_hw2 : k0_chk2 v2) (k0_t1 : Fin k0_t1_loop.trips), ∀ (k0_h5 : k0_cond5 k0_t1 = 1#1), ∀ (k0_h8 : k0_cond8 k0_t1 = 1#1), (k0_dev10 v2) < nD := fun v2 k0_hw2 k0_t1 k0_h5 k0_h8 => k0_hw2.2.2.2.2.1 k0_t1 k0_h5 k0_h8
theorem k0_dev11_lt : ∀ (v2 : BitVec 32) (k0_hw2 : k0_chk2 v2) (k0_t2 : Fin k0_t2_loop.trips), ∀ (k0_h9 : k0_cond9 k0_t2 = 1#1), (k0_dev11 v2) < nD := fun v2 k0_hw2 k0_t2 k0_h9 => k0_hw2.2.2.2.2.2.1 k0_t2 k0_h9
theorem k0_dev14_lt : ∀ (v2 : BitVec 32) (k0_hw2 : k0_chk2 v2) (k0_t2 : Fin k0_t2_loop.trips), ∀ (k0_h9 : k0_cond9 k0_t2 = 1#1), ∀ (k0_h12 : k0_cond12 k0_t2 = 1#1), (k0_dev14 v2) < nD := fun v2 k0_hw2 k0_t2 k0_h9 k0_h12 => k0_hw2.2.2.2.2.2.2.1 k0_t2 k0_h9 k0_h12
theorem k0_dev15_lt : ∀ (v2 : BitVec 32) (k0_hw2 : k0_chk2 v2) (k0_t2 : Fin k0_t2_loop.trips), ∀ (k0_h13 : k0_cond13 k0_t2 = 1#1), (k0_dev15 v2) < nD := fun v2 k0_hw2 k0_t2 k0_h13 => k0_hw2.2.2.2.2.2.2.2.1 k0_t2 k0_h13
theorem k0_dev18_lt : ∀ (v2 : BitVec 32) (k0_hw2 : k0_chk2 v2) (k0_t2 : Fin k0_t2_loop.trips), ∀ (k0_h13 : k0_cond13 k0_t2 = 1#1), ∀ (k0_h16 : k0_cond16 k0_t2 = 1#1), (k0_dev18 v2) < nD := fun v2 k0_hw2 k0_t2 k0_h13 k0_h16 => k0_hw2.2.2.2.2.2.2.2.2 k0_t2 k0_h13 k0_h16

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Ring.lean ====
/-
  The ring the devices stand in, and what the kernel's words say of it: each
  device's position, its two neighbours, the row chunk a hop works on, and the
  closed forms of the offsets, device numbers and conditions the program
  computes from the three words it loads.
-/
module

public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Memref
public import Idealize.ShloMosaic.Lib.VecWindow
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Regions

@[expose] public section

set_option maxRecDepth 16384

noncomputable section

namespace Cert.KProof

open Idealize.ShloMosaic Idealize.ShloMosaic.TcCoe
open Cert.KernelIdeal Cert.KernelIdeal.Gen

/-- The device at each position of the ring. -/
def ringAt : Fin 32 → Dev nD :=
  ![0,1,2,3,4,5,6,7,15,14,13,12,11,10,18,19,20,21,22,23,31,30,29,28,27,26,25,24,16,17,9,8]

/-- Each device's position in the ring. -/
def pos : Dev nD → Fin 32 :=
  ![0,1,2,3,4,5,6,7,31,30,13,12,11,10,9,8,28,29,14,15,16,17,18,19,27,26,25,24,23,22,21,20]

/-- Positions and devices answer each other. -/
theorem pos_ringAt : ∀ q, pos (ringAt q) = q := by decide
/-- Devices and positions answer each other. -/
theorem ringAt_pos : ∀ c, ringAt (pos c) = c := by decide

/-- The device a copy of direction `d` goes to: one position up for `false`, one down for `true`. -/
def nxt (d : Bool) (c : Dev nD) : Dev nD := ringAt (if d then pos c - 1 else pos c + 1)
/-- The device a copy of direction `d` comes from. -/
def prv (d : Bool) (c : Dev nD) : Dev nD := ringAt (if d then pos c + 1 else pos c - 1)

/-- The device after the one before is the device itself. -/
theorem nxt_prv : ∀ d c, nxt d (prv d c) = c := by decide
/-- The device before the one after is the device itself. -/
theorem prv_nxt : ∀ d c, prv d (nxt d c) = c := by decide
/-- The device before in one direction is the device after in the other. -/
theorem prv_not : ∀ d c, prv (!d) c = nxt d c := by decide

/-- The neighbour permutation of direction `d`. -/
def nxtEquiv (d : Bool) : Dev nD ≃ Dev nD := ⟨nxt d, prv d, prv_nxt d, nxt_prv d⟩

/-- The chunk device `c` works on in direction `d` at chunk index `j`. -/
def ck (d : Bool) (c : Dev nD) (j : ℕ) : Fin 32 := if d then pos c + Fin.ofNat 32 j else pos c - Fin.ofNat 32 j

/-- Successors count round the ring. -/
theorem ofNat_succ (j : ℕ) : Fin.ofNat 32 (j + 1) = Fin.ofNat 32 j + 1 := by
  apply Fin.ext; simp [Fin.ofNat, Fin.val_add]

/-- The position of the next device. -/
theorem pos_nxt : ∀ d c, pos (nxt d c) = if d then pos c - 1 else pos c + 1 := by decide

/-- One device on and one hop on name the same chunk. -/
theorem fin_step : ∀ (d : Bool) (p j : Fin 32),
    (if d then (if d then p - 1 else p + 1) + (j + 1) else (if d then p - 1 else p + 1) - (j + 1)) = if d then p + j else p - j := by
  decide +kernel

/-- The next device works on a chunk one hop later. -/
theorem ck_nxt (d : Bool) (c : Dev nD) (j : ℕ) : ck d (nxt d c) (j + 1) = ck d c j := by
  unfold ck; rw [pos_nxt, ofNat_succ]
  exact fin_step d (pos c) (Fin.ofNat 32 j)

/-- The device before works on a chunk one hop earlier. -/
theorem ck_prv (d : Bool) (c : Dev nD) (j : ℕ) : ck d (prv d c) j = ck d c (j + 1) := by
  rw [← ck_nxt, nxt_prv]

/-- After 32 hops a device works on the same chunk again. -/
theorem ck_period (d : Bool) (c : Dev nD) (j : ℕ) : ck d c (j + 32) = ck d c j := by
  unfold ck; rw [show Fin.ofNat 32 (j + 32) = Fin.ofNat 32 j from Fin.ext (by simp [Fin.ofNat])]

/-- Within 32 hops a device works on no chunk twice. -/
theorem ck_inj (d : Bool) (c : Dev nD) : ∀ i j : Fin 32, ck d c i = ck d c j → i = j := by
  have h : ∀ (d : Bool) (p i j : Fin 32), (if d then p + i else p - i) = (if d then p + j else p - j) → i = j := by
    decide +kernel
  intro i j
  unfold ck
  rw [show Fin.ofNat 32 i.val = i from Fin.ext (Nat.mod_eq_of_lt i.isLt), show Fin.ofNat 32 j.val = j from Fin.ext (Nat.mod_eq_of_lt j.isLt)]
  exact h d (pos c) i j

/-- Chunk indices and chunks of a device, one for one. -/
def ckEquiv (d : Bool) (c : Dev nD) : Fin 32 ≃ Fin 32 :=
  Equiv.ofBijective (fun j => ck d c j.val) (Finite.injective_iff_bijective.mp fun i j h => ck_inj d c i j h)

/-- The first row of chunk `k` of direction `d`'s half. -/
def row (d : Bool) (k : Fin 32) : ℕ := (if d then 1024 else 0) + 32 * k.val

/-- The offset of chunk `k` of direction `d`'s half. -/
def crow (d : Bool) (k : Fin 32) : Fin 2 → ℕ := ![row d k, 0]

/-- A chunk lies inside the result. -/
theorem crow_inb : ∀ (d : Bool) (k : Fin 32) (a), crow d k a + S32x2048.size a ≤ S2048x2048.size a := by
  decide +kernel

/-! ## The three words -/

/-- The word holding a device's position. -/
def qw (c : Dev nD) : BitVec 32 := BitVec.ofNat 32 (pos c).val
/-- The word naming a device. -/
def dw (c : Dev nD) : BitVec 32 := BitVec.ofNat 32 c.val

/-- A position's word passes the program's third check. -/
theorem chk3_q : ∀ c, k0_chk3 (qw c) := by decide +kernel
/-- A device's word passes the program's first check. -/
theorem chk1_d : ∀ c, k0_chk1 (dw c) := by decide +kernel
/-- A device's word passes the program's second check. -/
theorem chk2_d : ∀ c, k0_chk2 (dw c) := by decide +kernel

/-! ## The reduce-scatter's closed forms -/

/-- The reduce-scatter has 31 hops. -/
theorem trips1 : k0_t1_loop.trips = 31 := by decide
/-- The all-gather has 31 hops. -/
theorem trips2 : k0_t2_loop.trips = 31 := by decide

/-- The reduce-scatter's even branch is taken at even hops. -/
theorem cond1_iff : ∀ t : Fin k0_t1_loop.trips, (k0_cond1 t = 1#1 ↔ t.val % 2 = 0) := by decide +kernel
/-- The reduce-scatter's odd branch is taken at odd hops. -/
theorem cond5_iff : ∀ t : Fin k0_t1_loop.trips, (k0_cond5 t = 1#1 ↔ t.val % 2 = 1) := by decide +kernel
/-- At an even hop of the reduce-scatter a credit is sent up to hop 28. -/
theorem cond3_iff : ∀ t : Fin k0_t1_loop.trips, (k0_cond3 t = 1#1 ↔ t.val ≤ 28) := by decide +kernel
/-- At an even hop of the reduce-scatter a credit is sent up to hop 28. -/
theorem cond4_iff : ∀ t : Fin k0_t1_loop.trips, (k0_cond4 t = 1#1 ↔ t.val ≤ 28) := by decide +kernel
/-- At an odd hop of the reduce-scatter a credit is sent up to hop 28. -/
theorem cond7_iff : ∀ t : Fin k0_t1_loop.trips, (k0_cond7 t = 1#1 ↔ t.val ≤ 28) := by decide +kernel
/-- At an odd hop of the reduce-scatter a credit is sent up to hop 28. -/
theorem cond8_iff : ∀ t : Fin k0_t1_loop.trips, (k0_cond8 t = 1#1 ↔ t.val ≤ 28) := by decide +kernel

/-- An offset of the reduce-scatter: the chunk sent, going up the ring. -/
theorem off1_eq : ∀ c (t : Fin k0_t1_loop.trips), k0_off1 (qw c) t = crow false (ck false c t) := by decide +kernel
/-- An offset of the reduce-scatter: the chunk sent, going down the ring. -/
theorem off2_eq : ∀ c (t : Fin k0_t1_loop.trips), k0_off2 (qw c) t = crow true (ck true c t) := by decide +kernel
/-- An offset of the reduce-scatter: the chunk added to, going up the ring. -/
theorem off3_eq : ∀ c (t : Fin k0_t1_loop.trips), k0_off3 (qw c) t = crow false (ck false c (t + 1)) := by decide +kernel
/-- An offset of the reduce-scatter: the chunk added to, going down the ring. -/
theorem off4_eq : ∀ c (t : Fin k0_t1_loop.trips), k0_off4 (qw c) t = crow true (ck true c (t + 1)) := by decide +kernel
/-- An offset of the reduce-scatter: the chunk sent, going up the ring. -/
theorem off5_eq : ∀ c (t : Fin k0_t1_loop.trips), k0_off5 (qw c) t = crow false (ck false c t) := by decide +kernel
/-- An offset of the reduce-scatter: the chunk sent, going down the ring. -/
theorem off6_eq : ∀ c (t : Fin k0_t1_loop.trips), k0_off6 (qw c) t = crow true (ck true c t) := by decide +kernel
/-- An offset of the reduce-scatter: the chunk added to, going up the ring. -/
theorem off7_eq : ∀ c (t : Fin k0_t1_loop.trips), k0_off7 (qw c) t = crow false (ck false c (t + 1)) := by decide +kernel
/-- An offset of the reduce-scatter: the chunk added to, going down the ring. -/
theorem off8_eq : ∀ c (t : Fin k0_t1_loop.trips), k0_off8 (qw c) t = crow true (ck true c (t + 1)) := by decide +kernel
/-- The offset of the chunk whose sum completes on the device, going up the ring. -/
theorem off9_eq : ∀ c, k0_off9 (qw c) = crow false (ck false c 31) := by decide +kernel
/-- The offset of the chunk whose sum completes on the device, going down the ring. -/
theorem off10_eq : ∀ c, k0_off10 (qw c) = crow true (ck true c 31) := by decide +kernel

/-! ## The all-gather's -/

/-- The all-gather's even branch is taken at even hops. -/
theorem cond9_iff : ∀ t : Fin k0_t2_loop.trips, (k0_cond9 t = 1#1 ↔ t.val % 2 = 0) := by decide +kernel
/-- The all-gather's odd branch is taken at odd hops. -/
theorem cond13_iff : ∀ t : Fin k0_t2_loop.trips, (k0_cond13 t = 1#1 ↔ t.val % 2 = 1) := by decide +kernel
/-- At an even hop of the all-gather a credit is sent up to hop 28. -/
theorem cond11_iff : ∀ t : Fin k0_t2_loop.trips, (k0_cond11 t = 1#1 ↔ t.val ≤ 28) := by decide +kernel
/-- At an even hop of the all-gather a credit is sent up to hop 28. -/
theorem cond12_iff : ∀ t : Fin k0_t2_loop.trips, (k0_cond12 t = 1#1 ↔ t.val ≤ 28) := by decide +kernel
/-- At an odd hop of the all-gather a credit is sent up to hop 28. -/
theorem cond15_iff : ∀ t : Fin k0_t2_loop.trips, (k0_cond15 t = 1#1 ↔ t.val ≤ 28) := by decide +kernel
/-- At an odd hop of the all-gather a credit is sent up to hop 28. -/
theorem cond16_iff : ∀ t : Fin k0_t2_loop.trips, (k0_cond16 t = 1#1 ↔ t.val ≤ 28) := by decide +kernel

/-- An offset of the all-gather: the chunk sent, going up the ring. -/
theorem off11_eq : ∀ c (t : Fin k0_t2_loop.trips), k0_off11 (qw c) t = crow false (ck false c (t + 31)) := by decide +kernel
/-- An offset of the all-gather: the chunk sent, going down the ring. -/
theorem off12_eq : ∀ c (t : Fin k0_t2_loop.trips), k0_off12 (qw c) t = crow true (ck true c (t + 31)) := by decide +kernel
/-- An offset of the all-gather: the chunk sent, going up the ring. -/
theorem off13_eq : ∀ c (t : Fin k0_t2_loop.trips), k0_off13 (qw c) t = crow false (ck false c (t + 31)) := by decide +kernel
/-- An offset of the all-gather: the chunk sent, going down the ring. -/
theorem off14_eq : ∀ c (t : Fin k0_t2_loop.trips), k0_off14 (qw c) t = crow true (ck true c (t + 31)) := by decide +kernel

/-! ## Device numbers -/

/-- Every device number the program computes is the word it loaded. -/
theorem dev_word : ∀ c : Dev nD, (0#32 + dw c * 1#32).toNat = c.val := by decide +kernel

/-- The device that the program computes from a device's word is that device. -/
theorem dev1_eq (c : Dev nD) : k0_dev1 (dw c) = c.val := dev_word c
/-- The device that the program computes from a device's word is that device. -/
theorem dev2_eq (c : Dev nD) : k0_dev2 (dw c) = c.val := dev_word c
/-- The device that the program computes from a device's word is that device. -/
theorem dev3_eq (c : Dev nD) : k0_dev3 (dw c) = c.val := dev_word c
/-- The device that the program computes from a device's word is that device. -/
theorem dev4_eq (c : Dev nD) : k0_dev4 (dw c) = c.val := dev_word c
/-- The device that the program computes from a device's word is that device. -/
theorem dev5_eq (c : Dev nD) : k0_dev5 (dw c) = c.val := dev_word c
/-- The device that the program computes from a device's word is that device. -/
theorem dev6_eq (c : Dev nD) : k0_dev6 (dw c) = c.val := dev_word c
/-- The device that the program computes from a device's word is that device. -/
theorem dev7_eq (c : Dev nD) : k0_dev7 (dw c) = c.val := dev_word c
/-- The device that the program computes from a device's word is that device. -/
theorem dev8_eq (c : Dev nD) : k0_dev8 (dw c) = c.val := dev_word c
/-- The device that the program computes from a device's word is that device. -/
theorem dev9_eq (c : Dev nD) : k0_dev9 (dw c) = c.val := dev_word c
/-- The device that the program computes from a device's word is that device. -/
theorem dev10_eq (c : Dev nD) : k0_dev10 (dw c) = c.val := dev_word c
/-- The device that the program computes from a device's word is that device. -/
theorem dev11_eq (c : Dev nD) : k0_dev11 (dw c) = c.val := dev_word c
/-- The device that the program computes from a device's word is that device. -/
theorem dev12_eq (c : Dev nD) : k0_dev12 (dw c) = c.val := dev_word c
/-- The device that the program computes from a device's word is that device. -/
theorem dev13_eq (c : Dev nD) : k0_dev13 (dw c) = c.val := dev_word c
/-- The device that the program computes from a device's word is that device. -/
theorem dev14_eq (c : Dev nD) : k0_dev14 (dw c) = c.val := dev_word c
/-- The device that the program computes from a device's word is that device. -/
theorem dev15_eq (c : Dev nD) : k0_dev15 (dw c) = c.val := dev_word c
/-- The device that the program computes from a device's word is that device. -/
theorem dev16_eq (c : Dev nD) : k0_dev16 (dw c) = c.val := dev_word c
/-- The device that the program computes from a device's word is that device. -/
theorem dev17_eq (c : Dev nD) : k0_dev17 (dw c) = c.val := dev_word c
/-- The device that the program computes from a device's word is that device. -/
theorem dev18_eq (c : Dev nD) : k0_dev18 (dw c) = c.val := dev_word c

/-- The guard on a hop's first wait: the hop number is at least two. -/
theorem guard_iff : ∀ t : Fin 31,
    (Scalar.cmpi .ne (Scalar.extui (Scalar.cmpi .sge (Scf.iv 0#32 1#32 t : BitVec 32) 2#32) : BitVec 32) 0#32 = 1#1 ↔ 2 ≤ t.val) := by
  decide +kernel

end Cert.KProof

end
-- ==== Proof.Cells.lean ====
/-
  The memrefs a hop moves, the semaphores it uses, the contents that land, and
  the schedule of every semaphore: who pays it, how much, in which round, and
  what each landing or signal hands over.
-/
module

public import proofs.«01_k».proof.Proof.Ring

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state of the schedule: rounds with at most two duties each. -/
abbrev UB : Type := URounds (GSem nD τ sig) Bool
/-- The whole ghost state: that of the staged copies, and that of the schedule. -/
abbrev UU : Type := UR sig nD τ × UB

local notation "𝕄" => MT nD τ sig ℕ (Elt F) ℕ UU ℕ

/-- Where the staged copies' ghost state lies. -/
abbrev EP : Emb (UR sig nD τ) 𝕄 := embL
/-- Where the schedule's ghost state lies. -/
abbrev ER : Emb UB 𝕄 := embR

/-! ## The memrefs -/

/-- The staging buffer of the result. -/
abbrev outM : Memref sig .tc .vmem S2048x2048 .f32 := Memref.whole cc0_stg3_0

/-- The rectangle of chunk `k` of direction `d`'s half. -/
abbrev crect (d : Bool) (k : Fin 32) : Rect S2048x2048 := Rect.unit (s := S2048x2048) (crow d k) S32x2048.size (crow_inb d k)

/-- Chunk `k` of direction `d`'s half of the product's buffer. -/
def chunkM (d : Bool) (k : Fin 32) : Memref sig .tc .vmem S32x2048 .f32 := outM.slice (crect d k) (fun _ => rfl)

/-- The receive buffer of direction `d`, both slots. -/
def bufW : Bool → Memref sig .tc .vmem S2x32x2048 .f32
  | false => Memref.whole cc0_scratch0
  | true => Memref.whole cc0_scratch1

/-- A slot lies inside the receive buffer. -/
theorem slot_inb (h : ℕ) : ∀ a, (![h % 2, 0, 0] : Fin 3 → ℕ) a + S1x32x2048.size a ≤ S2x32x2048.size a := by
  rcases Nat.mod_two_eq_zero_or_one h with e | e <;> rw [e] <;> decide

/-- The slot of direction `d`'s receive buffer that hop `h` lands in. -/
def bufM (d : Bool) (h : ℕ) : Memref sig .tc .vmem S32x2048 .f32 :=
  ((bufW d).slice (Rect.unit (s := S2x32x2048) ![h % 2, 0, 0] S1x32x2048.size (slot_inb h)) (fun _ => rfl)).squeeze S32x2048
    squeezes_S1x32x2048_S32x2048

/-- Hops two apart use the same slot. -/
theorem bufM_add_two (d : Bool) (h : ℕ) : bufM d (h + 2) = bufM d h := by
  unfold bufM; congr 3 <;> simp [Nat.add_mod_right]

/-- The bytes one chunk's copy credits. -/
def N : ℕ := (chunkM false 0).view.dmaCredit
/-- A landing counts something. -/
theorem N_pos : 0 < N := View.dmaCredit_pos _ (by decide)
/-- A chunk's copy counts `N`. -/
theorem credit_chunk (d : Bool) (k : Fin 32) : (chunkM d k).view.dmaCredit = N := rfl
/-- A copy into a slot counts `N`. -/
theorem credit_buf (d : Bool) (h : ℕ) : (bufM d h).view.dmaCredit = N := by cases d <;> rfl

/-! ## The semaphores -/

/-- The numbers of the copies' semaphores are in range. -/
theorem dma_lt (a b : Bool) (e h : ℕ) (he : e ≤ 2) : 4 + 8 * b.toNat + 4 * a.toNat + e + h % 2 < 20 := by
  have := Nat.mod_lt h (show 0 < 2 by decide)
  cases a <;> cases b <;> simp only [Bool.toNat_false, Bool.toNat_true] <;> omega
/-- The numbers of the credits' semaphores are in range. -/
theorem reg_lt (a b : Bool) (h : ℕ) : 4 * a.toNat + 2 * b.toNat + h % 2 < 9 := by
  have := Nat.mod_lt h (show 0 < 2 by decide)
  cases a <;> cases b <;> simp only [Bool.toNat_false, Bool.toNat_true] <;> omega

/-- The send semaphore of hop `h` of phase `ph` (reduce-scatter `false`, all-gather `true`) in direction `d`. -/
def sndS (ph d : Bool) (h : ℕ) : DmaSem sig := ⟨4 + 8 * d.toNat + 4 * ph.toNat + 0 + h % 2, dma_lt ph d 0 h (by decide)⟩
/-- The receive semaphore of that hop. -/
def rcvS (ph d : Bool) (h : ℕ) : DmaSem sig := ⟨4 + 8 * d.toNat + 4 * ph.toNat + 2 + h % 2, dma_lt ph d 2 h (by decide)⟩
/-- The credit semaphore of that hop: its receiver returns the destination's room by it. -/
def crdS (ph d : Bool) (h : ℕ) : Sem sig := ⟨4 * ph.toNat + 2 * d.toNat + h % 2, reg_lt ph d h⟩
/-- The barrier semaphore. -/
def barS : Sem sig := (SemArray.scalar (sig.barrier 0 rfl) : Sems sig S_).sem

/-- A send semaphore depends on the hop's parity alone. -/
theorem sndS_mod (ph d : Bool) (h : ℕ) : sndS ph d (h % 2) = sndS ph d h := by unfold sndS; simp only [Nat.mod_mod]
/-- A receive semaphore depends on the hop's parity alone. -/
theorem rcvS_mod (ph d : Bool) (h : ℕ) : rcvS ph d (h % 2) = rcvS ph d h := by unfold rcvS; simp only [Nat.mod_mod]
/-- A credit semaphore depends on the hop's parity alone. -/
theorem crdS_mod (ph d : Bool) (h : ℕ) : crdS ph d (h % 2) = crdS ph d h := by unfold crdS; simp only [Nat.mod_mod]
/-- Hops two apart use the same send semaphore. -/
theorem sndS_two (ph d : Bool) (h : ℕ) : sndS ph d (h + 2) = sndS ph d h := by unfold sndS; simp only [Nat.add_mod_right]
/-- Hops two apart use the same receive semaphore. -/
theorem rcvS_two (ph d : Bool) (h : ℕ) : rcvS ph d (h + 2) = rcvS ph d h := by unfold rcvS; simp only [Nat.add_mod_right]
/-- Hops two apart use the same credit semaphore. -/
theorem crdS_two (ph d : Bool) (h : ℕ) : crdS ph d (h + 2) = crdS ph d h := by unfold crdS; simp only [Nat.add_mod_right]

/-- The send cell of a hop on device `c`. -/
abbrev sndC (ph d : Bool) (h : ℕ) (c : Dev nD) : GSem nD τ sig := ((c : Thread nD τ), .dma (sndS ph d h))
/-- The receive cell of a hop on device `c`. -/
abbrev rcvC (ph d : Bool) (h : ℕ) (c : Dev nD) : GSem nD τ sig := ((c : Thread nD τ), .dma (rcvS ph d h))
/-- The credit cell of a hop on device `c`. -/
abbrev crdC (ph d : Bool) (h : ℕ) (c : Dev nD) : GSem nD τ sig := ((c : Thread nD τ), .reg (crdS ph d h))
/-- The barrier's cell of device `c`. -/
abbrev barC (c : Dev nD) : GSem nD τ sig := ((c : Thread nD τ), .reg barS)

/-- What a semaphore is for: of which phase, direction and slot. -/
inductive Role where
  | none
  | bar
  | snd (ph d : Bool) (s : ℕ)
  | rcv (ph d : Bool) (s : ℕ)
  | crd (ph d : Bool) (s : ℕ)
  deriving DecidableEq

/-- The role of each semaphore of a core. -/
def role : SemLoc sig → Role
  | .dma i =>
    if i.val < 4 then .none
    else if (i.val - 4) / 2 % 2 = 0 then .snd (decide ((i.val - 4) / 4 % 2 = 1)) (decide ((i.val - 4) / 8 = 1)) (i.val % 2)
    else .rcv (decide ((i.val - 4) / 4 % 2 = 1)) (decide ((i.val - 4) / 8 = 1)) (i.val % 2)
  | .reg i =>
    if i.val = 8 then .bar else .crd (decide (i.val / 4 = 1)) (decide (i.val / 2 % 2 = 1)) (i.val % 2)

/-- What a send semaphore is for. -/
theorem role_snd (ph d : Bool) (h : ℕ) : role (.dma (sndS ph d h)) = .snd ph d (h % 2) := by
  rw [← sndS_mod]; rcases Nat.mod_two_eq_zero_or_one h with e | e <;> rw [e] <;> revert ph d <;> decide
/-- What a receive semaphore is for. -/
theorem role_rcv (ph d : Bool) (h : ℕ) : role (.dma (rcvS ph d h)) = .rcv ph d (h % 2) := by
  rw [← rcvS_mod]; rcases Nat.mod_two_eq_zero_or_one h with e | e <;> rw [e] <;> revert ph d <;> decide
/-- What a credit semaphore is for. -/
theorem role_crd (ph d : Bool) (h : ℕ) : role (.reg (crdS ph d h)) = .crd ph d (h % 2) := by
  rw [← crdS_mod]; rcases Nat.mod_two_eq_zero_or_one h with e | e <;> rw [e] <;> revert ph d <;> decide
/-- What the barrier semaphore is for. -/
theorem role_bar : role (.reg barS) = .bar := by decide

/-! ## The contents -/

/-- The rows of chunk `k` of direction `d`'s half. -/
def chunkV (Y : Vec F S2048x2048 .f32) (d : Bool) (k : Fin 32) : Vec F S32x2048 .f32 := fun j => Y ((crect d k).emb j)

variable (X : Dev nD → Vec F S2048x2048 .f32)

/-- The partial sum device `c` holds of the chunk it sends at hop `h`: its own rows added to what the device before
    it sent a hop earlier. -/
def acc (d : Bool) : ℕ → Dev nD → Vec F S32x2048 .f32
  | 0, c => chunkV (X c) d (ck d c 0)
  | h + 1, c => addf (chunkV (X c) d (ck d c (h + 1)) : FVec F S32x2048 .f32) (acc d h (prv d c) : FVec F S32x2048 .f32)

/-- The device on which the sum of chunk `k` completes. -/
def owner (d : Bool) (k : Fin 32) : Dev nD := ringAt (if d then k + 1 else k - 1)
/-- The chunk a device has at the reduce-scatter's end is the one whose sum completes on it. -/
theorem owner_ck : ∀ (d : Bool) (c : Dev nD), owner d (ck d c 31) = c := by decide +kernel

/-- The finished chunk `k`: the activation of its complete sum. -/
def fin (d : Bool) (k : Fin 32) : Vec F S32x2048 .f32 := k0_pay1 (acc X d 31 (owner d k))

/-- Where hop `h` of phase `ph` lands on device `c`: a slot of the receive buffer, or the chunk's own rows. -/
def dstM (ph d : Bool) (c : Dev nD) (h : ℕ) : Memref sig .tc .vmem S32x2048 .f32 :=
  match ph with
  | false => bufM d h
  | true => chunkM d (ck d c h)

/-- The chunk device `c` sends at hop `h`. -/
def srcK (ph d : Bool) (c : Dev nD) (h : ℕ) : Fin 32 :=
  match ph with
  | false => ck d c h
  | true => ck d c (h + 31)

/-- What it holds. -/
def srcV (ph d : Bool) (c : Dev nD) (h : ℕ) : Vec F S32x2048 .f32 :=
  match ph with
  | false => acc X d h c
  | true => fin X d (ck d c (h + 31))

/-- A hop's landing counts `N`, wherever it lands. -/
theorem credit_dst (ph d : Bool) (c : Dev nD) (h : ℕ) : (dstM ph d c h).view.dmaCredit = N := by
  cases ph
  · exact credit_buf d h
  · exact credit_chunk d _

/-- Device `c` owns memref `mm` at contents `v`. -/
abbrev own (c : Dev nD) (mm : Memref sig .tc .vmem S32x2048 .f32) (v : Vec F S32x2048 .f32) : sProp 𝕄 :=
  owns (Ix := ℕ) (Name := ℕ) (U := UU) (Lvl := ℕ) (c : Thread nD τ) mm fullShare v
/-- Device `c` owns memref `mm` at any contents. -/
abbrev ownAny (c : Dev nD) (mm : Memref sig .tc .vmem S32x2048 .f32) : sProp 𝕄 := iprop(∃ v : Vec F S32x2048 .f32, own c mm v)

/-! ## The schedule -/

/-- The room device `c` needs for its hop `h`: the destination on its receiver, which has opened the round it lands in. -/
def room (ph d : Bool) (c : Dev nD) (h : ℕ) : sProp 𝕄 :=
  iprop(ownAny (nxt d c) (dstM ph d (nxt d c) h) ∗ reached ER (rcvC ph d h (nxt d c)) (h / 2))

/-- The room of the first two hops of the all-gather, handed over by the reduce-scatter's last credit. -/
def extra (ph d : Bool) (c : Dev nD) (h : ℕ) : sProp 𝕄 :=
  match ph with
  | false => if h = 28 then iprop(room true d c 0 ∗ room true d c 1) else iprop(emp)
  | true => iprop(emp)

/-- A send's completion gives the source back. -/
def sndPay (ph d : Bool) (h : ℕ) (c : Dev nD) : sProp 𝕄 := own c (chunkM d (srcK ph d c h)) (srcV X ph d c h)
/-- A landing hands over the destination at what the sender held, and that the sender awaits its credit. -/
def rcvPay (ph d : Bool) (h : ℕ) (c : Dev nD) : sProp 𝕄 :=
  iprop(own c (dstM ph d c h) (srcV X ph d (prv d c) h) ∗ reached ER (crdC ph d h (prv d c)) (h / 2))
/-- A credit hands over the room of the hop two later. -/
def crdPay (ph d : Bool) (h : ℕ) (c : Dev nD) : sProp 𝕄 := iprop(room (F := F) ph d c (h + 2) ∗ extra ph d c h)
/-- A barrier signal hands over the room of the first two hops. -/
def barPay (d : Bool) (c : Dev nD) : sProp 𝕄 := iprop(room (F := F) false d c 0 ∗ room false d c 1)

/-- What a payment to a semaphore of device `c` hands over in round `r`. Hop `2 r + s` is the one of parity `s` in that round. -/
def payloadOf (c : Dev nD) (r : ℕ) (dd : Bool) : Role → sProp 𝕄
  | .none => iprop(emp)
  | .bar => barPay dd c
  | .snd ph d s => sndPay X ph d (2 * r + s) c
  | .rcv ph d s => rcvPay X ph d (2 * r + s) c
  | .crd ph d s => crdPay ph d (2 * r + s) c

/-- The payments a semaphore gets in round `r`: one for each hop it serves, and two at the barrier, one from either side. -/
def dutiesOf (r : ℕ) : Role → Finset Bool
  | .none => ∅
  | .bar => if r = 0 then Finset.univ else ∅
  | .snd _ _ s => if 2 * r + s ≤ 30 then {false} else ∅
  | .rcv _ _ s => if 2 * r + s ≤ 30 then {false} else ∅
  | .crd _ _ s => if 2 * r + s ≤ 28 then {false} else ∅

/-- How much a payment counts. -/
def amountOf : Role → ℕ
  | .none => 1
  | .bar => 1
  | .snd _ _ _ => N
  | .rcv _ _ _ => N
  | .crd _ _ _ => 1

/-- The schedule of the kernel's semaphores. -/
def sched : Rounds.Schedule (GSem nD τ sig) Bool 𝕄 where
  duties g r := if g.1.2 = .tc then dutiesOf r (role g.2) else ∅
  unitless _ := False
  amount g _ _ := amountOf (role g.2)
  payload g r dd := payloadOf X g.1.1 r dd (role g.2)
  amount_pos g _ _ _ := by
    cases role g.2 <;> simp only [amountOf] <;> first | exact Nat.one_pos | exact N_pos

/-- Room may be kept in an invariant. -/
instance room_storable (ph d : Bool) (c : Dev nD) (h : ℕ) : BI.Storable (upEmb : UEmb _ 𝕄) (room (F := F) ph d c h) := by
  unfold room; infer_instance
/-- The all-gather's first room may be kept in an invariant. -/
instance extra_storable (ph d : Bool) (c : Dev nD) (h : ℕ) : BI.Storable (upEmb : UEmb _ 𝕄) (extra (F := F) ph d c h) := by
  cases ph <;> unfold extra <;> dsimp only
  · split <;> infer_instance
  · infer_instance
/-- What a payment hands over may be kept in an invariant. -/
instance payload_storable (g : GSem nD τ sig) (r : ℕ) (dd : Bool) : BI.Storable (upEmb : UEmb _ 𝕄) ((sched X).payload g r dd) := by
  show BI.Storable upEmb (payloadOf X g.1.1 r dd (role g.2))
  cases role g.2 <;> unfold payloadOf <;> dsimp only <;> first
    | infer_instance
    | (unfold barPay; infer_instance)
    | (unfold sndPay; infer_instance)
    | (unfold rcvPay; infer_instance)
    | (unfold crdPay; infer_instance)

section Sched
variable (ph d : Bool) (h : ℕ) (c : Dev nD)

/-- A send cell has one payment at each hop. -/
theorem duties_snd (hh : h ≤ 30) : (sched X).duties (sndC ph d h c) (h / 2) = {false} := by
  dsimp only [sched]; rw [if_pos rfl, role_snd]; exact if_pos (by omega : 2 * (h / 2) + h % 2 ≤ 30)
/-- A receive cell has one payment at each hop. -/
theorem duties_rcv (hh : h ≤ 30) : (sched X).duties (rcvC ph d h c) (h / 2) = {false} := by
  dsimp only [sched]; rw [if_pos rfl, role_rcv]; exact if_pos (by omega : 2 * (h / 2) + h % 2 ≤ 30)
/-- A credit cell has one payment at each hop up to hop 28. -/
theorem duties_crd (hh : h ≤ 28) : (sched X).duties (crdC ph d h c) (h / 2) = {false} := by
  dsimp only [sched]; rw [if_pos rfl, role_crd]; exact if_pos (by omega : 2 * (h / 2) + h % 2 ≤ 28)
/-- The barrier's cell has two payments. -/
theorem duties_bar : (sched X).duties (barC c) 0 = Finset.univ := by
  dsimp only [sched]; rw [if_pos rfl, role_bar]; rfl

/-- A payment to a send cell counts `N`. -/
theorem amount_snd (r : ℕ) (dd : Bool) : (sched X).amount (sndC ph d h c) r dd = N := by dsimp only [sched]; rw [role_snd]; rfl
/-- A payment to a receive cell counts `N`. -/
theorem amount_rcv (r : ℕ) (dd : Bool) : (sched X).amount (rcvC ph d h c) r dd = N := by dsimp only [sched]; rw [role_rcv]; rfl
/-- A credit counts one. -/
theorem amount_crd (r : ℕ) (dd : Bool) : (sched X).amount (crdC ph d h c) r dd = 1 := by dsimp only [sched]; rw [role_crd]; rfl
/-- A barrier signal counts one. -/
theorem amount_bar (r : ℕ) (dd : Bool) : (sched X).amount (barC c) r dd = 1 := by dsimp only [sched]; rw [role_bar]; rfl

/-- A send cell gives the sent chunk back. -/
theorem payload_snd (dd : Bool) : (sched X).payload (sndC ph d h c) (h / 2) dd = sndPay X ph d h c := by
  dsimp only [sched]; rw [role_snd]; exact congrArg (fun i => sndPay X ph d i c) (by omega : 2 * (h / 2) + h % 2 = h)
/-- A receive cell gives what has landed. -/
theorem payload_rcv (dd : Bool) : (sched X).payload (rcvC ph d h c) (h / 2) dd = rcvPay X ph d h c := by
  dsimp only [sched]; rw [role_rcv]; exact congrArg (fun i => rcvPay X ph d i c) (by omega : 2 * (h / 2) + h % 2 = h)
/-- A credit cell gives room for the hop two later. -/
theorem payload_crd (dd : Bool) : (sched X).payload (crdC ph d h c) (h / 2) dd = crdPay ph d h c := by
  dsimp only [sched]; rw [role_crd]; exact congrArg (fun i => crdPay ph d i c) (by omega : 2 * (h / 2) + h % 2 = h)
/-- A barrier signal gives room for the first two hops of its direction. -/
theorem payload_bar (dd : Bool) : (sched X).payload (barC c) 0 dd = barPay dd c := by
  dsimp only [sched]; rw [role_bar]; rfl

/-- A wait for a copy's sending takes `N`. -/
theorem expect_snd (hh : h ≤ 30) : (sched X).expect (sndC ph d h c) (h / 2) = N := by
  unfold Schedule.expect Schedule.amountOf; rw [duties_snd X ph d h c hh, Finset.sum_singleton, amount_snd]
/-- A wait for a landing takes `N`. -/
theorem expect_rcv (hh : h ≤ 30) : (sched X).expect (rcvC ph d h c) (h / 2) = N := by
  unfold Schedule.expect Schedule.amountOf; rw [duties_rcv X ph d h c hh, Finset.sum_singleton, amount_rcv]
/-- A wait for a credit takes one. -/
theorem expect_crd (hh : h ≤ 28) : (sched X).expect (crdC ph d h c) (h / 2) = 1 := by
  unfold Schedule.expect Schedule.amountOf; rw [duties_crd X ph d h c hh, Finset.sum_singleton, amount_crd]
/-- The wait at the barrier takes two. -/
theorem expect_bar : (sched X).expect (barC c) 0 = 2 := by
  unfold Schedule.expect Schedule.amountOf
  rw [duties_bar, Finset.sum_congr rfl fun dd _ => amount_bar X c 0 dd, Finset.sum_const, Finset.card_univ, Fintype.card_bool, smul_eq_mul]

end Sched

end Cert.KProof

end
-- ==== Proof.Steps.lean ====
/-
  What each device owes, the levels that order the waits, and one rule per
  operation of a hop: the wait for room, the copy, the wait for a landing, the
  accumulation, the credit, and the wait for a copy's completion.
-/
module

public import proofs.«01_k».proof.Proof.Cells

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Levels -/

/-- The level of a payment: later hops lie higher, and a hop's credit lies above its landing. -/
def lvOf (r : ℕ) : Role → ℕ
  | .none => 0
  | .bar => 1
  | .snd ph _ s => 4 * (31 * ph.toNat + (2 * r + s)) + 4
  | .rcv ph _ s => 4 * (31 * ph.toNat + (2 * r + s)) + 4
  | .crd ph _ s => 4 * (31 * ph.toNat + (2 * r + s)) + 6

/-- The rounds that count: those of a core's own semaphores. -/
def L (g : GSem nD τ sig) : Finset ℕ := if g.1.2 = .tc then Finset.range 16 else ∅
/-- The level of a cell's round. -/
def lv (g : GSem nD τ sig) (r : ℕ) : ℕ := lvOf r (role g.2)

/-- Other threads' semaphores have no rounds. -/
theorem L_of_ne (g : GSem nD τ sig) (h : g.1.2 ≠ .tc) : L g = ∅ := if_neg h
/-- A core's semaphores have 16 rounds. -/
theorem L_tc (c : Dev nD) (sm : SemLoc sig) : L ((c : Thread nD τ), sm) = Finset.range 16 := if_pos rfl

/-- The level of a copy's sending. -/
theorem lv_snd (ph d : Bool) (h : ℕ) (c : Dev nD) : lv (sndC ph d h c) (h / 2) = 4 * (31 * ph.toNat + h) + 4 := by
  unfold lv; rw [role_snd]; show 4 * (31 * ph.toNat + (2 * (h / 2) + h % 2)) + 4 = _; omega
/-- The level of a landing. -/
theorem lv_rcv (ph d : Bool) (h : ℕ) (c : Dev nD) : lv (rcvC ph d h c) (h / 2) = 4 * (31 * ph.toNat + h) + 4 := by
  unfold lv; rw [role_rcv]; show 4 * (31 * ph.toNat + (2 * (h / 2) + h % 2)) + 4 = _; omega
/-- The level of a credit. -/
theorem lv_crd (ph d : Bool) (h : ℕ) (c : Dev nD) : lv (crdC ph d h c) (h / 2) = 4 * (31 * ph.toNat + h) + 6 := by
  unfold lv; rw [role_crd]; show 4 * (31 * ph.toNat + (2 * (h / 2) + h % 2)) + 6 = _; omega
/-- The level of the barrier. -/
theorem lv_bar (c : Dev nD) (r : ℕ) : lv (barC c) r = 1 := by unfold lv; rw [role_bar]; rfl

/-- Everything `O` counts is on indexed cells above level `b`. -/
def Above (O : CellTallies nD τ sig ℕ) (b : ℕ) : Prop := ∀ g u, 0 < O g u → u ∈ L g ∧ b < lv g u

/-- Nothing owed lies above anything. -/
theorem Above.zero (b : ℕ) : Above 0 b := fun g u h => absurd h (Nat.lt_irrefl 0)
/-- Two dues above a level are together above it. -/
theorem Above.add {O O' : CellTallies nD τ sig ℕ} {b : ℕ} (h : Above O b) (h' : Above O' b) : Above (O + O') b := fun g u hp => by
  rw [Pi.add_apply, Finsupp.add_apply] at hp
  rcases Nat.add_pos_iff_pos_or_pos.mp hp with hp | hp
  · exact h g u hp
  · exact h' g u hp
/-- One due lies above every level below its own. -/
theorem Above.tally {g : GSem nD τ sig} {r n b : ℕ} (hr : r ∈ L g) (hb : b < lv g r) : Above (tallyAt g r n) b := fun g' u hp => by
  rw [tallyAt_apply] at hp
  split at hp
  · next e => obtain ⟨rfl, rfl⟩ := e; exact ⟨hr, hb⟩
  · exact absurd hp (Nat.lt_irrefl 0)
/-- What lies above a level lies above a lower one. -/
theorem Above.mono {O : CellTallies nD τ sig ℕ} {b b' : ℕ} (h : Above O b) (hb : b' ≤ b) : Above O b' :=
  fun g u hp => ⟨(h g u hp).1, lt_of_le_of_lt hb (h g u hp).2⟩
/-- Many dues above a level are together above it. -/
theorem Above.sum {O : ℕ → CellTallies nD τ sig ℕ} {b : ℕ} (S : Finset ℕ) (h : ∀ i ∈ S, Above (O i) b) : Above (∑ i ∈ S, O i) b := by
  induction S using Finset.induction_on with
  | empty => rw [Finset.sum_empty]; exact Above.zero b
  | insert i S hi ih =>
    rw [Finset.sum_insert hi]
    exact (h i (Finset.mem_insert_self _ _)).add (ih fun j hj => h j (Finset.mem_insert_of_mem hj))

/-- A wait at or below level `b` may go on while everything owed lies above. -/
theorem mayWait (c : Dev nD) (sm : SemLoc sig) (r : ℕ) (hr : r < 16) {O : CellTallies nD τ sig ℕ} {b : ℕ} (h : Above O b)
    (hb : lv ((c : Thread nD τ), sm) r ≤ b) : (levAts L lv : sProp 𝕄) ⊢ MayWait (c : Thread nD τ) sm r O :=
  MayOwe.of_cut (L := L) (lev := lv) b (fun p hp => by rw [Finset.mem_singleton.mp hp, L_tc]; exact Finset.mem_range.mpr hr)
    (fun g u hg => (h g u hg).1) (fun p hp => by rw [Finset.mem_singleton.mp hp]; exact hb) (fun g u hg => (h g u hg).2)

/-! ## What a device owes -/

/-- The landing a device owes its receiver at hop `h`. -/
def owL (ph d : Bool) (c : Dev nD) (h : ℕ) : CellTallies nD τ sig ℕ := tallyAt (rcvC ph d h (nxt d c)) (h / 2) N
/-- The credit a device owes its sender at hop `h`; the last two hops have none. -/
def owC (ph d : Bool) (c : Dev nD) (h : ℕ) : CellTallies nD τ sig ℕ :=
  if h ≤ 28 then tallyAt (crdC ph d h (prv d c)) (h / 2) 1 else 0
/-- A hop's whole due, both directions. -/
def owHop (ph : Bool) (c : Dev nD) (h : ℕ) : CellTallies nD τ sig ℕ :=
  ((owC ph true c h + owC ph false c h) + owL ph true c h) + owL ph false c h
/-- What a phase still owes before hop `h`. -/
def owPh (ph : Bool) (c : Dev nD) (h : ℕ) : CellTallies nD τ sig ℕ := ∑ i ∈ Finset.Ico h 31, owHop ph c i
/-- What the later phase owes. -/
def owTail (ph : Bool) (c : Dev nD) : CellTallies nD τ sig ℕ := if ph then 0 else owPh true c 0
/-- The whole due before hop `h` of phase `ph`. -/
def ow (ph : Bool) (c : Dev nD) (h : ℕ) : CellTallies nD τ sig ℕ := owPh ph c h + owTail ph c
/-- The same after both copies of hop `h` have been started, after the first credit, and so on. -/
def ow2 (ph : Bool) (c : Dev nD) (h : ℕ) : CellTallies nD τ sig ℕ := (ow ph c (h + 1) + owC ph true c h) + owC ph false c h
/-- What is owed after both copies and one credit. -/
def ow1 (ph : Bool) (c : Dev nD) (h : ℕ) : CellTallies nD τ sig ℕ := ow ph c (h + 1) + owC ph true c h
/-- What is owed after the first copy alone. -/
def ow3 (ph : Bool) (c : Dev nD) (h : ℕ) : CellTallies nD τ sig ℕ := ow2 ph c h + owL ph true c h
/-- At launch: the two barrier signals, then everything. -/
def owB (c : Dev nD) : CellTallies nD τ sig ℕ := ow false c 0 + tallyAt (barC (prv true c)) 0 1
/-- What a device owes at launch, the first barrier signal included. -/
def O₀ (c : Dev nD) : CellTallies nD τ sig ℕ := owB c + tallyAt (barC (prv false c)) 0 1

/-- What is owed before a hop is what is owed after its first copy, and that copy. -/
theorem ow_peel (ph : Bool) (c : Dev nD) (h : ℕ) (hh : h ≤ 30) : ow ph c h = ow3 ph c h + owL ph false c h := by
  have e : Finset.Ico h 31 = insert h (Finset.Ico (h + 1) 31) := by
    ext i; simp only [Finset.mem_Ico, Finset.mem_insert]; omega
  unfold ow3 ow2 ow owPh
  rw [e, Finset.sum_insert (by simp [Finset.mem_Ico]), owHop]
  ac_rfl
/-- At the end nothing is owed. -/
theorem ow_end (c : Dev nD) : ow true c 31 = 0 := by
  unfold ow owPh owTail; rw [Finset.Ico_self, Finset.sum_empty, if_pos rfl, zero_add]
/-- What the reduce-scatter leaves owed is the all-gather's whole due. -/
theorem ow_turn (c : Dev nD) : ow false c 31 = ow true c 0 := by
  unfold ow owPh owTail; rw [Finset.Ico_self, Finset.sum_empty, if_pos rfl, if_neg Bool.false_ne_true, zero_add, add_zero]; rfl

/-- A hop's landing lies above all that comes before the hop. -/
theorem above_owL (ph d : Bool) (c : Dev nD) (h b : ℕ) (hh : h ≤ 30) (hb : b < 4 * (31 * ph.toNat + h) + 4) : Above (owL ph d c h) b :=
  Above.tally (by rw [L_tc]; exact Finset.mem_range.mpr (by omega)) (by rw [lv_rcv]; exact hb)
/-- A hop's credit lies above the hop's landing. -/
theorem above_owC (ph d : Bool) (c : Dev nD) (h b : ℕ) (hb : b < 4 * (31 * ph.toNat + h) + 6) : Above (owC ph d c h) b := by
  unfold owC; split
  · exact Above.tally (by rw [L_tc]; exact Finset.mem_range.mpr (by omega)) (by rw [lv_crd]; exact hb)
  · exact Above.zero b
/-- A hop's due lies above all that comes before the hop. -/
theorem above_owHop (ph : Bool) (c : Dev nD) (h b : ℕ) (hh : h ≤ 30) (hb : b < 4 * (31 * ph.toNat + h) + 4) : Above (owHop ph c h) b :=
  (((above_owC ph true c h b (by omega)).add (above_owC ph false c h b (by omega))).add (above_owL ph true c h b hh hb)).add (above_owL ph false c h b hh hb)
/-- A phase's due from a hop on lies above all that comes before the hop. -/
theorem above_owPh (ph : Bool) (c : Dev nD) (h b : ℕ) (hb : b < 4 * (31 * ph.toNat + h) + 4) : Above (owPh ph c h) b :=
  Above.sum _ fun i hi => by
    have := Finset.mem_Ico.mp hi
    exact above_owHop ph c i b (by omega) (by omega)
/-- The whole due from a hop on lies above all that comes before the hop. -/
theorem above_ow (ph : Bool) (c : Dev nD) (h b : ℕ) (hh : h ≤ 31) (hb : b < 4 * (31 * ph.toNat + h) + 4) : Above (ow ph c h) b := by
  unfold ow owTail
  refine (above_owPh ph c h b hb).add ?_
  cases ph
  · rw [if_neg Bool.false_ne_true]; exact above_owPh true c 0 b (by simp only [Bool.toNat_true, Bool.toNat_false] at *; omega)
  · rw [if_pos rfl]; exact Above.zero b
/-- After both copies and one credit, what is owed lies above the hop's landing. -/
theorem above_ow1 (ph : Bool) (c : Dev nD) (h b : ℕ) (hh : h ≤ 30) (hb : b < 4 * (31 * ph.toNat + h) + 6) : Above (ow1 ph c h) b :=
  (above_ow ph c (h + 1) b (by omega) (by omega)).add (above_owC ph true c h b hb)
/-- After both copies, what is owed lies above the hop's landing. -/
theorem above_ow2 (ph : Bool) (c : Dev nD) (h b : ℕ) (hh : h ≤ 30) (hb : b < 4 * (31 * ph.toNat + h) + 6) : Above (ow2 ph c h) b :=
  (above_ow1 ph c h b hh hb).add (above_owC ph false c h b hb)
/-- What is owed at the second barrier signal lies above level 0. -/
theorem above_owB (c : Dev nD) : Above (owB c) 0 :=
  (above_ow false c 0 0 (by decide) (by decide)).add
    (Above.tally (by rw [L_tc]; exact Finset.mem_range.mpr (by decide)) (by rw [lv_bar]; decide))
/-- What is owed at launch lies above level 0. -/
theorem above_O₀ (c : Dev nD) : Above (O₀ c) 0 :=
  (above_owB c).add (Above.tally (by rw [L_tc]; exact Finset.mem_range.mpr (by decide)) (by rw [lv_bar]; decide))

/-! ## The records every step consults -/

variable (X : Dev nD → Vec F S2048x2048 .f32)

/-- The cells with a schedule: the barrier's, and each core's send, receive and credit cells. -/
def barCells : Finset (GSem nD τ sig) := Finset.univ.image barC
/-- The hops' cells among them. -/
def scCells : Finset (GSem nD τ sig) :=
  Finset.univ.filter fun g => g.1.2 = .tc ∧ role g.2 ≠ .none ∧ role g.2 ≠ .bar
/-- All cells with a schedule. -/
def cells : Finset (GSem nD τ sig) := barCells ∪ scCells

/-- The barrier's cells have a schedule. -/
theorem bar_mem (c : Dev nD) : barC c ∈ cells := Finset.mem_union_left _ (Finset.mem_image_of_mem _ (Finset.mem_univ c))
/-- The send cells have a schedule. -/
theorem snd_mem (ph d : Bool) (h : ℕ) (c : Dev nD) : sndC ph d h c ∈ cells :=
  Finset.mem_union_right _ (Finset.mem_filter.mpr ⟨Finset.mem_univ _, rfl, by rw [role_snd]; exact Role.noConfusion, by rw [role_snd]; exact Role.noConfusion⟩)
/-- The receive cells have a schedule. -/
theorem rcv_mem (ph d : Bool) (h : ℕ) (c : Dev nD) : rcvC ph d h c ∈ cells :=
  Finset.mem_union_right _ (Finset.mem_filter.mpr ⟨Finset.mem_univ _, rfl, by rw [role_rcv]; exact Role.noConfusion, by rw [role_rcv]; exact Role.noConfusion⟩)
/-- The credit cells have a schedule. -/
theorem crd_mem (ph d : Bool) (h : ℕ) (c : Dev nD) : crdC ph d h c ∈ cells :=
  Finset.mem_union_right _ (Finset.mem_filter.mpr ⟨Finset.mem_univ _, rfl, by rw [role_crd]; exact Role.noConfusion, by rw [role_crd]; exact Role.noConfusion⟩)

/-- What every step consults: the cells' invariants, the levels, and that the all-gather's receive cells are open. -/
def recs (κ : GSem nD τ sig → ℕ) (c : Dev nD) : sProp 𝕄 :=
  iprop((bigSep cells fun g => cellInv ER (sched X) (κ g) g) ∗ levAts L lv
    ∗ (bigSep Finset.univ fun x : Bool × Fin 2 => reached ER (rcvC true x.1 x.2.val c) 0)
    ∗ bigSep Finset.univ fun c' : Dev nD => reached ER (barC c') 0)

/-- What every step consults may be used any number of times. -/
instance recs_persistent (κ : GSem nD τ sig → ℕ) (c : Dev nD) : BI.Persistent (recs X κ c) := by unfold recs; infer_instance

/-- The invariant of a cell. -/
theorem recs_inv (κ : GSem nD τ sig → ℕ) (c : Dev nD) {g : GSem nD τ sig} (hg : g ∈ cells) : recs X κ c ⊢ cellInv ER (sched X) (κ g) g := by
  unfold recs; exact sep_elim_left.trans (bigSep_elim hg)
/-- The levels. -/
theorem recs_lev (κ : GSem nD τ sig → ℕ) (c : Dev nD) : recs X κ c ⊢ levAts L lv := by
  unfold recs; exact sep_elim_right.trans sep_elim_left
/-- The all-gather's receive cells are open. -/
theorem recs_rcv (κ : GSem nD τ sig → ℕ) (c : Dev nD) (d : Bool) (s : Fin 2) : recs X κ c ⊢ reached ER (rcvC true d s.val c) 0 := by
  unfold recs; exact (sep_elim_right.trans (sep_elim_right.trans sep_elim_left)).trans
    (bigSep_elim (Φ := fun x : Bool × Fin 2 => reached ER (rcvC true x.1 x.2.val c) 0) (i := (d, s)) (Finset.mem_univ _))
/-- The barrier's cells are open. -/
theorem recs_bar (κ : GSem nD τ sig → ℕ) (c c' : Dev nD) : recs X κ c ⊢ reached ER (barC c') 0 := by
  unfold recs; exact (sep_elim_right.trans (sep_elim_right.trans sep_elim_right)).trans
    (bigSep_elim (Φ := fun c' : Dev nD => reached ER (barC c') 0) (Finset.mem_univ c'))

/-- A core's place in one of its cells: at the start of round `r`, which is reached. -/
def at_ (g : GSem nD τ sig) (r : ℕ) : sProp 𝕄 := iprop(atPos ER g r ∅ 0 ∗ reached ER g r)

/-! ## Loads and stores of a chunk and of a slot -/

/-- A program of the core. -/
abbrev Pgm := Prog (TpuEff nD τ sig (Elt F) Λ₀ .tc)
/-- No loop needs a bound of its own. -/
abbrev 𝒱₀ : Variants := Variants.none
/-- Program `p` runs on device `c` without fault and ends in `Q`. -/
abbrev WP {α : Type} (c : Dev nD) (p : Pgm (F := F) α) (Q : α → sProp 𝕄) : sProp 𝕄 :=
  wp frame (wpE (defs₀ (F := F)) 𝒱₀ (c : Thread nD τ) none) Set.univ p Q

section Mem
variable (c : Dev nD)

/-- A chunk owned is the rectangle's elements of the product's buffer. -/
theorem own_chunk (d : Bool) (k : Fin 32) (v : Vec F S32x2048 .f32) :
    own c (chunkM d k) v = (iprop(∃ f : Buf (Elt F) ((outM.access (crect d k)).loc (c : Thread nD τ)),
      ⌜(outM.access (crect d k)).read (Elt F) f = v⌝ ∗ ((outM.access (crect d k)).loc (c : Thread nD τ) ↦[(outM.access (crect d k)).set]{fullShare} f)) : sProp 𝕄) := rfl
/-- A slot owned is the rectangle's elements of the receive buffer, read as a chunk. -/
theorem own_slot (d : Bool) (h : ℕ) (v : Vec F S32x2048 .f32) :
    own c (bufM d h) v = (iprop(∃ f : Buf (Elt F) (((bufW d).access (Rect.unit (s := S2x32x2048) ![h % 2, 0, 0] S1x32x2048.size (slot_inb h))).loc (c : Thread nD τ)),
      ⌜shapeCast S32x2048 (((bufW d).access (Rect.unit (s := S2x32x2048) ![h % 2, 0, 0] S1x32x2048.size (slot_inb h))).read (Elt F) f : Vec F S1x32x2048 .f32)
        shapeCasts_S1x32x2048_S32x2048 = v⌝
      ∗ (((bufW d).access (Rect.unit (s := S2x32x2048) ![h % 2, 0, 0] S1x32x2048.size (slot_inb h))).loc (c : Thread nD τ)
        ↦[((bufW d).access (Rect.unit (s := S2x32x2048) ![h % 2, 0, 0] S1x32x2048.size (slot_inb h))).set]{fullShare} f)) : sProp 𝕄) := by
  have e : (bufM d h).view.set = ((bufW d).access (Rect.unit (s := S2x32x2048) ![h % 2, 0, 0] S1x32x2048.size (slot_inb h))).set := by
    unfold bufM; exact Memref.set_view_squeeze _ _
  unfold own owns
  rw [e]
  rfl

/-- A load of chunk `k`'s rows. -/
theorem wp_load_chunk (d : Bool) (k : Fin 32) (v : Vec F S32x2048 .f32) (off : Fin 2 → ℕ) (hoff : off = crow d k)
    {inb : ∀ a, off a + S32x2048.size a ≤ S2048x2048.size a} {hl : outM.view.LoadsAt (Rect.unit (s := S2048x2048) off S32x2048.size inb).toLoadRect}
    {α : Type} {Q : α → sProp 𝕄} {kk : Vec F S32x2048 .f32 → Pgm (F := F) α} :
    own c (chunkM d k) v ⊢ iprop((own c (chunkM d k) v -∗ WP c (kk v) Q)
      -∗ WP c (.op (.load outM (Rect.unit (s := S2048x2048) off S32x2048.size inb).toLoadRect hl) kk) Q) := by
  subst hoff
  rw [own_chunk]
  iintro ⟨%f, %hf, H⟩ Hk
  iapply (wp_load_rect 𝒱₀ (c : Thread nD τ) none Set.univ (m := outM) (r := crect d k) (hl := hl) (S := (outM.access (crect d k)).set) (f := f)
    (Finset.Subset.refl _)) $$ H
  iintro H
  subst hf
  iapply Hk
  iexists f; isplitr; · ipureintro; rfl
  iexact H

/-- A store over chunk `k`'s rows. -/
theorem wp_store_chunk (d : Bool) (k : Fin 32) (v w : Vec F S32x2048 .f32) (off : Fin 2 → ℕ) (hoff : off = crow d k)
    {inb : ∀ a, off a + S32x2048.size a ≤ S2048x2048.size a}
    {hx : (outM.access (Rect.unit (s := S2048x2048) off S32x2048.size inb)).Stores Finset.univ}
    {hm : (Finset.univ : Finset (Rect.unit (s := S2048x2048) off S32x2048.size inb).shape.Idx) = Finset.univ ∨ ∀ a, (Rect.unit (s := S2048x2048) off S32x2048.size inb).stride a = 1}
    {α : Type} {Q : α → sProp 𝕄} {kk : PUnit → Pgm (F := F) α} :
    own c (chunkM d k) v ⊢ iprop((own c (chunkM d k) w -∗ WP c (kk ⟨⟩) Q)
      -∗ WP c (.op (.store outM (Rect.unit (s := S2048x2048) off S32x2048.size inb) w Finset.univ hx hm) kk) Q) := by
  subst hoff
  rw [own_chunk, own_chunk]
  iintro ⟨%f, %hf, H⟩ Hk
  iapply (wp_store 𝒱₀ (c : Thread nD τ) none Set.univ (m := outM) (r := crect d k) (w := w) (Mk := Finset.univ) (hx := hx) (hm := hm)
    (S := (outM.access (crect d k)).set) (f := f) (Finset.Subset.refl _)) $$ H
  iintro H
  iapply Hk
  iexists ((outM.access (crect d k)).write (Elt F) f w Finset.univ); isplitr
  · ipureintro; exact View.read_write_univ (v := outM.access (crect d k)) (Val := Elt F) f w
  iexact H

/-- A load of a receive buffer's slot, read as the chunk it holds. -/
theorem wp_load_slot (d : Bool) (h s : ℕ) (hs : s = h % 2) (v : Vec F S32x2048 .f32) (mm : Memref sig .tc .vmem S2x32x2048 .f32) (hmm : mm = bufW d)
    {inb : ∀ a, (![s, 0, 0] : Fin 3 → ℕ) a + S1x32x2048.size a ≤ S2x32x2048.size a}
    {hl : mm.view.LoadsAt (Rect.unit (s := S2x32x2048) ![s, 0, 0] S1x32x2048.size inb).toLoadRect}
    {α : Type} {Q : α → sProp 𝕄} {kk : Vec F S1x32x2048 .f32 → Pgm (F := F) α} :
    own c (bufM d h) v ⊢ iprop((∀ w : Vec F S1x32x2048 .f32, ⌜shapeCast S32x2048 w shapeCasts_S1x32x2048_S32x2048 = v⌝ -∗ own c (bufM d h) v -∗ WP c (kk w) Q)
      -∗ WP c (.op (.load mm (Rect.unit (s := S2x32x2048) ![s, 0, 0] S1x32x2048.size inb).toLoadRect hl) kk) Q) := by
  subst hs hmm
  rw [own_slot]
  iintro ⟨%f, %hf, H⟩ Hk
  iapply (wp_load_rect 𝒱₀ (c : Thread nD τ) none Set.univ (m := bufW d) (r := Rect.unit (s := S2x32x2048) ![h % 2, 0, 0] S1x32x2048.size (slot_inb h)) (hl := hl)
    (f := f) (Finset.Subset.refl _)) $$ H
  iintro H
  subst hf
  iapply Hk
  · ipureintro; rfl
  iexists f; isplitr; · ipureintro; rfl
  iexact H

end Mem

end Cert.KProof

end
-- ==== Proof.Hop.lean ====
/-
  The states of one direction through a hop, and the operations that lead from
  each to the next.
-/
module

public import proofs.«01_k».proof.Proof.Steps

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Dev nD → Vec F S2048x2048 .f32)

/-- One resource taken out of many. -/
theorem bigSep_out {I : Type} [DecidableEq I] {s : Finset I} {i : I} (h : i ∈ s) {Φ : I → sProp 𝕄} : bigSep s Φ = iprop(Φ i ∗ bigSep (s.erase i) Φ) :=
  bigSep_erase h
/-- One resource put to many. -/
theorem bigSep_cons {I : Type} [DecidableEq I] {s : Finset I} {i : I} (h : i ∉ s) {Φ : I → sProp 𝕄} : bigSep (insert i s) Φ = iprop(Φ i ∗ bigSep s Φ) :=
  bigSep_insert h

/-! ## The chunks of a direction's half -/

/-- What a device has of a chunk: nothing; its rows at some contents; the rows of the local product; the partial sum
    of the chunk's hop; the finished rows. -/
inductive PS where
  | gone | any | raw | part | fin
  deriving DecidableEq

/-- The resource of the `j`-th chunk in each of these states. -/
def pc (d : Bool) (c : Dev nD) (j : ℕ) : PS → sProp 𝕄
  | .gone => iprop(emp)
  | .any => ownAny c (chunkM d (ck d c j))
  | .raw => own c (chunkM d (ck d c j)) (chunkV (X c) d (ck d c j))
  | .part => own c (chunkM d (ck d c j)) (acc X d j c)
  | .fin => own c (chunkM d (ck d c j)) (fin X d (ck d c j))

/-- The 32 chunks of the half, numbered by the hop that sends them. -/
def pcs (d : Bool) (c : Dev nD) (f : ℕ → PS) : sProp 𝕄 := bigSep (Finset.range 32) fun j => pc X d c j (f j)

/-- The chunks depend only on the states of the 32. -/
theorem pcs_congr (d : Bool) (c : Dev nD) {f g : ℕ → PS} (h : ∀ j < 32, f j = g j) : pcs X d c f = pcs X d c g := by
  unfold pcs; exact bigSep_congr fun j hj => by rw [h j (Finset.mem_range.mp hj)]

/-- One chunk taken out. -/
theorem pcs_take (d : Bool) (c : Dev nD) {f g : ℕ → PS} {i : ℕ} (hi : i < 32) (hg : ∀ j < 32, g j = if j = i then .gone else f j) :
    pcs X d c f ⊢ iprop(pc X d c i (f i) ∗ pcs X d c g) := by
  unfold pcs
  rw [bigSep_out (Finset.mem_range.mpr hi), bigSep_out (Φ := fun j => pc X d c j (g j)) (Finset.mem_range.mpr hi), hg i hi, if_pos rfl,
    show (bigSep ((Finset.range 32).erase i) fun j => pc X d c j (g j)) = bigSep ((Finset.range 32).erase i) fun j => pc X d c j (f j) from
      bigSep_congr fun j hj => by rw [hg j (Finset.mem_range.mp (Finset.mem_of_mem_erase hj)), if_neg (Finset.ne_of_mem_erase hj)]]
  iintro ⟨H, HR⟩
  isplitl [H]; · iexact H
  isplitr; · unfold pc; iempintro
  iexact HR

/-- One chunk put back. -/
theorem pcs_put (d : Bool) (c : Dev nD) {f g : ℕ → PS} {i : ℕ} (s : PS) (hi : i < 32) (hf : f i = .gone) (hg : ∀ j < 32, g j = if j = i then s else f j) :
    iprop(pc X d c i s ∗ pcs X d c f) ⊢ pcs X d c g := by
  unfold pcs
  rw [bigSep_out (Finset.mem_range.mpr hi), bigSep_out (Φ := fun j => pc X d c j (g j)) (Finset.mem_range.mpr hi), hg i hi, if_pos rfl,
    show (bigSep ((Finset.range 32).erase i) fun j => pc X d c j (g j)) = bigSep ((Finset.range 32).erase i) fun j => pc X d c j (f j) from
      bigSep_congr fun j hj => by rw [hg j (Finset.mem_range.mp (Finset.mem_of_mem_erase hj)), if_neg (Finset.ne_of_mem_erase hj)]]
  iintro ⟨H, -, HR⟩
  isplitl [H]; · iexact H
  iexact HR

/-- The chunk's rows, their contents forgotten. -/
theorem pc_any (d : Bool) (c : Dev nD) (j : ℕ) (s : PS) (hs : s ≠ .gone) : pc X d c j s ⊢ pc X d c j .any := by
  cases s
  · exact absurd rfl hs
  · exact BI.Entails.refl _
  all_goals (unfold pc; iintro H; iexists _; iexact H)

/-- The chunks before hop `h`. -/
def st (ph : Bool) (h j : ℕ) : PS :=
  if ph then (if j = 31 ∨ j < h then .fin else if j < h + 2 then .gone else .any)
  else if 29 ≤ h ∧ j < 2 then .gone else if j < h then .any else if j = h then .part else .raw
/-- The chunk the hop sends, and the one it completes or adds to. -/
def srcJ (ph : Bool) (h : ℕ) : ℕ := if ph then (if h = 0 then 31 else h - 1) else h
/-- The chunk that the hop completes or adds to. -/
def landJ (ph : Bool) (h : ℕ) : ℕ := if ph then h else h + 1
/-- The chunks with the sent one away, with the landed one in, and after the credit. -/
def stA (ph : Bool) (h j : ℕ) : PS := if j = srcJ ph h then .gone else st ph h j
/-- The chunks with the landed one in. -/
def stB (ph : Bool) (h j : ℕ) : PS := if j = landJ ph h then (if ph then .fin else .part) else stA ph h j
/-- The chunks after the credit: the room it hands over is gone. -/
def stC (ph : Bool) (h j : ℕ) : PS := if (ph = true ∧ h ≤ 28 ∧ j = h + 2) ∨ (ph = false ∧ h = 28 ∧ j < 2) then .gone else stB ph h j

/-- After the hop, the sent chunk back in hand, the chunks are as before the next hop. -/
theorem st_succ (ph : Bool) (h j : ℕ) (hh : h ≤ 30) (hj : j < 32) :
    st ph (h + 1) j = if j = srcJ ph h then (if ph then .fin else .any) else stC ph h j := by
  cases ph <;> simp only [st, stC, stB, stA, srcJ, landJ] <;> grind
/-- The sent chunk is away after the copy's start. -/
theorem stA_src (ph : Bool) (h : ℕ) : stA ph h (srcJ ph h) = .gone := if_pos rfl
/-- It is still away after the credit. -/
theorem stC_src (ph : Bool) (h : ℕ) (hh : h ≤ 30) : stC ph h (srcJ ph h) = .gone := by
  cases ph <;> simp only [st, stC, stB, stA, srcJ, landJ] <;> grind
/-- The sent chunk is one of the 32. -/
theorem srcJ_lt (ph : Bool) (h : ℕ) (hh : h ≤ 30) : srcJ ph h < 32 := by unfold srcJ; cases ph <;> grind
/-- Before the hop the chunk it sends is ready: a partial sum, or a finished chunk. -/
theorem st_src (ph : Bool) (h : ℕ) (hh : h ≤ 30) : st ph h (srcJ ph h) = if ph then .fin else .part := by
  cases ph <;> simp only [st, srcJ] <;> grind

/-! ## Rooms, buffers and tokens -/

/-- The room in hand before hop `h`: both slots' at the start, and the next phase's at the reduce-scatter's end. -/
def rooms (ph d : Bool) (c : Dev nD) (h : ℕ) : sProp 𝕄 :=
  if h = 0 then iprop(room (F := F) ph d c 0 ∗ room ph d c 1)
  else if h = 1 then room ph d c 1
  else if h = 31 ∧ ph = false then iprop(room true d c 0 ∗ room true d c 1)
  else iprop(emp)

/-- Before the first hop both rooms are in hand. -/
theorem rooms_zero (ph d : Bool) (c : Dev nD) : rooms (F := F) ph d c 0 = iprop(room (F := F) ph d c 0 ∗ rooms ph d c 1) := rfl
/-- Before the second hop one room is in hand. -/
theorem rooms_one (ph d : Bool) (c : Dev nD) : rooms (F := F) ph d c 1 = room ph d c 1 := rfl
/-- From the third hop on no room is in hand at a hop's head. -/
theorem rooms_mid (ph d : Bool) (c : Dev nD) (h : ℕ) (h2 : 2 ≤ h) (h30 : h ≤ 30) : rooms (F := F) ph d c h = iprop(emp) := by
  unfold rooms; rw [if_neg (by omega), if_neg (by omega), if_neg (by omega)]
/-- What the credit awaited before hop `e + 2` brings besides its own room is the room in hand one hop later. -/
theorem rooms_extra (ph d : Bool) (c : Dev nD) (e : ℕ) (he : e ≤ 28) : rooms (F := F) ph d c (e + 3) = extra ph d c e := by
  unfold rooms; rw [if_neg (by omega), if_neg (by omega)]
  cases ph
  · unfold extra; dsimp only
    by_cases h : e = 28
    · rw [if_pos ⟨by omega, rfl⟩, if_pos h]
    · rw [if_neg (by omega), if_neg h]
  · rw [if_neg (fun h => Bool.noConfusion h.2)]; rfl

/-- The receive buffer's slots kept after the last landing in each. -/
def bufs (ph d : Bool) (c : Dev nD) (h : ℕ) : sProp 𝕄 :=
  if ph = true ∨ h = 31 then iprop(ownAny (F := F) c (bufM d 29) ∗ ownAny c (bufM d 30))
  else if h = 30 then ownAny c (bufM d 29) else iprop(emp)

/-- The right to credit the sender. -/
def ctok (ph d : Bool) (c : Dev nD) (h : ℕ) : sProp 𝕄 :=
  if h ≤ 28 then dutyTok ER (crdC ph d h (prv d c)) (h / 2) false else iprop(emp)
/-- The credit expected before a hop. -/
def wcred (ph d : Bool) (c : Dev nD) (h : ℕ) : sProp 𝕄 :=
  if 2 ≤ h then cred (tallyAt (crdC ph d h c) (h / 2 - 1) 1) else iprop(emp)
/-- A hop's tokens: to send, to land at the receiver, to credit the sender; its expected landing and credit. -/
def hopTok (ph d : Bool) (c : Dev nD) (h : ℕ) : sProp 𝕄 :=
  iprop(dutyTok ER (sndC ph d h c) (h / 2) false ∗ dutyTok ER (rcvC ph d h (nxt d c)) (h / 2) false
    ∗ cred (tallyAt (rcvC ph d h c) (h / 2) N) ∗ ctok ph d c h ∗ wcred ph d c h)
/-- The tokens of the hops from `h` on. -/
def toks (ph d : Bool) (c : Dev nD) (h : ℕ) : sProp 𝕄 := bigSep (Finset.Ico h 31) fun i => hopTok (F := F) ph d c i

/-- The tokens of the next hop, and those of the later ones. -/
theorem toks_peel (ph d : Bool) (c : Dev nD) (h : ℕ) (hh : h ≤ 30) : toks (F := F) ph d c h = iprop(hopTok ph d c h ∗ toks ph d c (h + 1)) := by
  have e : Finset.Ico h 31 = insert h (Finset.Ico (h + 1) 31) := by
    ext i; simp only [Finset.mem_Ico, Finset.mem_insert]; omega
  unfold toks
  rw [e, bigSep_cons (by simp [Finset.mem_Ico])]

/-! ## The states -/

/-- What a hop does not touch. -/
def idle (ph d : Bool) (c : Dev nD) (h : ℕ) : sProp 𝕄 :=
  iprop(toks (F := F) ph d c (h + 1) ∗ rooms ph d c (h + 1) ∗ at_ (sndC ph d (h + 1) c) ((h + 1) / 2) ∗ at_ (rcvC ph d (h + 1) c) ((h + 1) / 2)
    ∗ at_ (crdC ph d (h + 1) c) ((h + 1) / 2 - 1))

/-- Before hop `h`. -/
def H0 (ph d : Bool) (c : Dev nD) (h : ℕ) : sProp 𝕄 :=
  iprop(pcs X d c (st ph h) ∗ bufs ph d c h ∗ toks ph d c h ∗ rooms ph d c h
    ∗ at_ (sndC ph d h c) (h / 2) ∗ at_ (sndC ph d (h + 1) c) ((h + 1) / 2)
    ∗ at_ (rcvC ph d h c) (h / 2) ∗ at_ (rcvC ph d (h + 1) c) ((h + 1) / 2)
    ∗ at_ (crdC ph d h c) (h / 2 - 1) ∗ at_ (crdC ph d (h + 1) c) ((h + 1) / 2 - 1))
/-- With room to send. -/
def H1 (ph d : Bool) (c : Dev nD) (h : ℕ) : sProp 𝕄 :=
  iprop(pcs X d c (st ph h) ∗ bufs ph d c h ∗ idle ph d c h ∗ dutyTok ER (sndC ph d h c) (h / 2) false ∗ dutyTok ER (rcvC ph d h (nxt d c)) (h / 2) false
    ∗ cred (tallyAt (rcvC ph d h c) (h / 2) N) ∗ ctok ph d c h ∗ room ph d c h
    ∗ at_ (sndC ph d h c) (h / 2) ∗ at_ (rcvC ph d h c) (h / 2) ∗ at_ (crdC ph d h c) (h / 2))
/-- With the copy on its way. -/
def H2 (ph d : Bool) (c : Dev nD) (h : ℕ) : sProp 𝕄 :=
  iprop(pcs X d c (stA ph h) ∗ bufs ph d c h ∗ idle ph d c h ∗ cred (tallyAt (sndC ph d h c) (h / 2) N)
    ∗ cred (tallyAt (rcvC ph d h c) (h / 2) N) ∗ ctok ph d c h
    ∗ at_ (sndC ph d h c) (h / 2) ∗ at_ (rcvC ph d h c) (h / 2) ∗ at_ (crdC ph d h c) (h / 2))
/-- With the neighbour's copy landed. -/
def H3 (ph d : Bool) (c : Dev nD) (h : ℕ) : sProp 𝕄 :=
  iprop(pcs X d c (stA ph h) ∗ own c (dstM ph d c h) (srcV X ph d (prv d c) h) ∗ reached ER (crdC ph d h (prv d c)) (h / 2)
    ∗ bufs ph d c h ∗ idle ph d c h ∗ cred (tallyAt (sndC ph d h c) (h / 2) N) ∗ ctok ph d c h
    ∗ at_ (sndC ph d h c) (h / 2) ∗ at_ (rcvC ph d h c) (h / 2 + 1) ∗ at_ (crdC ph d h c) (h / 2))
/-- The landing slot free again, in the reduce-scatter. -/
def freed (ph d : Bool) (c : Dev nD) (h : ℕ) : sProp 𝕄 := if ph then iprop(emp) else ownAny (F := F) c (bufM d h)
/-- With what landed taken in. -/
def H4 (ph d : Bool) (c : Dev nD) (h : ℕ) : sProp 𝕄 :=
  iprop(pcs X d c (stB ph h) ∗ freed ph d c h ∗ reached ER (crdC ph d h (prv d c)) (h / 2)
    ∗ bufs ph d c h ∗ idle ph d c h ∗ cred (tallyAt (sndC ph d h c) (h / 2) N) ∗ ctok ph d c h
    ∗ at_ (sndC ph d h c) (h / 2) ∗ at_ (rcvC ph d h c) (h / 2 + 1) ∗ at_ (crdC ph d h c) (h / 2))
/-- With the credit returned. -/
def H5 (ph d : Bool) (c : Dev nD) (h : ℕ) : sProp 𝕄 :=
  iprop(pcs X d c (stC ph h) ∗ bufs ph d c (h + 1) ∗ idle ph d c h ∗ cred (tallyAt (sndC ph d h c) (h / 2) N)
    ∗ at_ (sndC ph d h c) (h / 2) ∗ at_ (rcvC ph d h c) (h / 2 + 1) ∗ at_ (crdC ph d h c) (h / 2))

/-- Device `c` owes `O`. -/
def owesE (c : Dev nD) (O : CellTallies nD τ sig ℕ) : sProp 𝕄 := iprop(∃ W, owes (c : Thread nD τ) O W)

/-- The place in a send cell after a hop is the place before the hop two later. -/
theorem at_two_snd (ph d : Bool) (c : Dev nD) (h : ℕ) : at_ (F := F) (sndC ph d h c) (h / 2 + 1) = at_ (sndC ph d (h + 1 + 1) c) ((h + 1 + 1) / 2) := by
  rw [show h + 1 + 1 = h + 2 from rfl, show (h + 2) / 2 = h / 2 + 1 by omega]; unfold sndC; rw [sndS_two]
/-- The place in a receive cell after a hop is the place before the hop two later. -/
theorem at_two_rcv (ph d : Bool) (c : Dev nD) (h : ℕ) : at_ (F := F) (rcvC ph d h c) (h / 2 + 1) = at_ (rcvC ph d (h + 1 + 1) c) ((h + 1 + 1) / 2) := by
  rw [show h + 1 + 1 = h + 2 from rfl, show (h + 2) / 2 = h / 2 + 1 by omega]; unfold rcvC; rw [rcvS_two]
/-- The place in a credit cell after a hop is the place before the hop two later. -/
theorem at_two_crd (ph d : Bool) (c : Dev nD) (h : ℕ) : at_ (F := F) (crdC ph d h c) (h / 2) = at_ (crdC ph d (h + 1 + 1) c) ((h + 1 + 1) / 2 - 1) := by
  rw [show h + 1 + 1 = h + 2 from rfl, show (h + 2) / 2 - 1 = h / 2 by omega]; unfold crdC; rw [crdS_two]

/-! ## One wait -/

section Steps
variable (κ : GSem nD τ sig → ℕ) (c : Dev nD)

/-- A wait that takes the whole open round of a cell paid by one duty: the payload, and the next round open. -/
theorem wp_take (sm : SemLoc sig) (r n : ℕ) (hg : ((c : Thread nD τ), sm) ∈ cells) (hD : (sched X).duties ((c : Thread nD τ), sm) r = {false})
    (hE : (sched X).expect ((c : Thread nD τ), sm) r = n) (hr : r < 16) {O : CellTallies nD τ sig ℕ} {b : ℕ} (hO : Above O b) (hb : lv ((c : Thread nD τ), sm) r ≤ b)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm n K)
    {α : Type} {Q : α → sProp 𝕄} {kk : PUnit → Pgm (F := F) α} :
    iprop(recs X κ c ∗ owesE c O ∗ cred (tallyAt ((c : Thread nD τ), sm) r n) ∗ at_ ((c : Thread nD τ), sm) r)
      ⊢ iprop(((owesE c O ∗ at_ ((c : Thread nD τ), sm) (r + 1) ∗ (sched X).payload ((c : Thread nD τ), sm) r false) -∗ WP c (kk ⟨⟩) Q) -∗ WP c (.op w kk) Q) := by
  unfold owesE at_
  iintro ⟨#HR, ⟨%W, HO⟩, Hc, Hat, -⟩ Hk
  iapply (Rounds.wp_wait_rest_token 𝒱₀ ER (sched X) (c : Thread nD τ) none (κ := κ ((c : Thread nD τ), sm)) hw (Set.mem_univ _) r (O := O) (W := W) (R := r) (m := 0) (T := ∅)
      (by rw [Nat.zero_add, hE])) $$ [Hc HO Hat]
  · isplitr; · iapply (recs_inv X κ c hg); iexact HR
    isplitl [Hc]; · iexact Hc
    isplitl [HO]; · iexact HO
    isplitr; · iapply ((recs_lev X κ c).trans (mayWait c sm r hr hO hb)); iexact HR
    iexact Hat
  iintro ⟨HO, Hat, #Hre, Hpay⟩
  iapply Hk
  isplitl [HO]; · iexists _; iexact HO
  isplitl [Hat]
  · isplitl [Hat]; · iexact Hat
    iexact Hre
  iapply (Entails.of_eq (show (bigSep ((sched X).duties ((c : Thread nD τ), sm) r \ ∅) fun d => (sched X).payload ((c : Thread nD τ), sm) r d)
      = (sched X).payload ((c : Thread nD τ), sm) r false from by rw [hD, Finset.sdiff_empty, bigSep_singleton]))
  iexact Hpay

/-! ## The wait for room -/

/-- The first two hops have their room already. -/
theorem enter_free (ph d : Bool) (h : ℕ) (hh : h < 2) : H0 X ph d c h ⊢ H1 X ph d c h := by
  unfold H0 H1 idle
  rw [toks_peel ph d c h (by omega)]; unfold hopTok wcred
  rw [if_neg (by omega), show h / 2 - 1 = h / 2 by omega]
  have e : rooms (F := F) ph d c h ⊢ iprop(room ph d c h ∗ rooms ph d c (h + 1)) := by
    obtain rfl | rfl : h = 0 ∨ h = 1 := by omega
    · rw [rooms_zero]
    · rw [rooms_one, rooms_mid ph d c (1 + 1) (by decide) (by decide)]; iintro H; isplitl; · iexact H
      iempintro
  iintro ⟨Hp, Hb, ⟨⟨Hs, Hr, Hc, Ht, -⟩, HT⟩, Hroom, H1, H2, H3, H4, H5, H6⟩
  ihave Hx := e $$ Hroom
  icases Hx with ⟨Hx, Hy⟩
  iframe

/-- The wait for a credit: the room of the hop. -/
theorem wp_crd (ph d : Bool) (h : ℕ) (h2 : 2 ≤ h) (h30 : h ≤ 30) (q : Sem sig) (hq : q = crdS ph d h) (n : ℕ) (hn : n = 1)
    {O : CellTallies nD τ sig ℕ} (hO : Above O (4 * (31 * ph.toNat + h)))
    {α : Type} {Q : α → sProp 𝕄} {kk : PUnit → Pgm (F := F) α} :
    iprop(recs X κ c ∗ owesE c O ∗ H0 X ph d c h)
      ⊢ iprop(((owesE c O ∗ H1 X ph d c h) -∗ WP c (kk ⟨⟩) Q) -∗ WP c (.op (.semWait q n) kk) Q) := by
  subst hq hn
  obtain ⟨e, rfl⟩ : ∃ e, h = e + 2 := ⟨h - 2, by omega⟩
  have er : (e + 2) / 2 - 1 = e / 2 := by omega
  have es : (e + 2) / 2 = e / 2 + 1 := by omega
  have ec : crdS ph d (e + 2) = crdS ph d e := crdS_two ph d e
  unfold H0 H1 idle
  rw [toks_peel ph d c (e + 2) h30]; unfold hopTok wcred
  rw [if_pos h2, er, rooms_mid ph d c (e + 2) h2 h30, rooms_extra ph d c e (by omega)]
  iintro ⟨#HR, HO, Hp, Hb, ⟨⟨Hs, Hr, Hc, Ht, Hw⟩, HT⟩, -, H1, H2, H3, H4, H5, H6⟩ Hk
  iapply (wp_take X κ c (.reg (crdS ph d (e + 2))) (e / 2) 1 (crd_mem ph d (e + 2) c)
      (by rw [ec]; exact duties_crd X ph d e c (by omega)) (by rw [ec]; exact expect_crd X ph d e c (by omega)) (by omega) hO
      (by rw [ec, lv_crd]; omega) (wpE_semWait_eq 𝒱₀ (c : Thread nD τ) none Set.univ)) $$ [HO Hw H5]
  · isplitr; · iexact HR
    iframe
  iintro ⟨HO, Hat, Hpay⟩
  ihave Hpay' := (Entails.of_eq (show (sched X).payload ((c : Thread nD τ), .reg (crdS ph d (e + 2))) (e / 2) false
      = iprop(room (F := F) ph d c (e + 2) ∗ extra ph d c e) from by rw [ec]; exact payload_crd X ph d e c false)) $$ Hpay
  icases Hpay' with ⟨Hroom, Hx⟩
  iapply Hk
  isplitl [HO]; · iexact HO
  rw [es]
  iframe

/-! ## The copy -/

/-- Where a hop lands on the next device: the same chunk's rows, or the slot. -/
theorem dstM_nxt (ph d : Bool) (h : ℕ) : dstM ph d (nxt d c) h = if ph then chunkM d (ck d c (h + 31)) else bufM d h := by
  cases ph
  · rfl
  · show chunkM d (ck d (nxt d c) h) = chunkM d (ck d c (h + 31))
    rw [← ck_nxt d c (h + 31), show h + 31 + 1 = h + 32 from rfl, ck_period]

/-- The chunk the hop sends, as the state holds it. -/
theorem pc_src (ph d : Bool) (h : ℕ) (hh : h ≤ 30) : pc X d c (srcJ ph h) (st ph h (srcJ ph h)) = own c (chunkM d (srcK ph d c h)) (srcV X ph d c h) := by
  rw [st_src ph h hh]
  cases ph
  · rfl
  · have e : ck d c (srcJ true h) = ck d c (h + 31) := by
      show ck d c (if h = 0 then 31 else h - 1) = _
      by_cases h0 : h = 0
      · rw [if_pos h0, h0]
      · rw [if_neg h0, show h + 31 = h - 1 + 32 by omega, ck_period]
    show own c (chunkM d (ck d c (srcJ true h))) (fin X d (ck d c (srcJ true h))) = own c (chunkM d (ck d c (h + 31))) (fin X d (ck d c (h + 31)))
    rw [e]

set_option maxHeartbeats 1000000 in
/-- The start of a hop's copy. -/
theorem wp_copy (ph d : Bool) (h : ℕ) (hh : h ≤ 30) (n : Dev nD) (hn : n = nxt d c) (q q' : DmaSem sig) (hq : q = sndS ph d h) (hq' : q' = rcvS ph d h)
    (m : Memref sig .tc .vmem S32x2048 .f32) (hm : m = chunkM d (srcK ph d c h)) (m' : Memref sig .tc .vmem S32x2048 .f32) (hm' : m' = dstM ph d (nxt d c) h)
    {hsc : (m' : Memref sig (Dev.tc n : Thread nD τ).2.kind .vmem S32x2048 .f32).view.ref.isScScratch = false}
    {hsrc : m.view.WordExact} {hdst : (m' : Memref sig .tc .vmem S32x2048 .f32).view.WordExact}
    {hsem : DmaTarget.Typed .vmem (.dma q') (.remote (Dev.tc n : Thread nD τ) (m' : Memref sig .tc .vmem S32x2048 .f32) (.dma q) hsc)}
    {O₀ : CellTallies nD τ sig ℕ} (O : CellTallies nD τ sig ℕ) (hO : O₀ = O + owL ph d c h)
    {α : Type} {Q : α → sProp 𝕄} {kk : PUnit → Pgm (F := F) α} :
    iprop(recs X κ c ∗ owesE c O₀ ∗ H1 X ph d c h)
      ⊢ iprop(((owesE c O ∗ H2 X ph d c h) -∗ WP c (kk ⟨⟩) Q)
        -∗ WP c (.op (.enqueueDma m (.remote (Dev.tc n : Thread nD τ) m' (.dma q) hsc) (.dma q') hsrc hdst hsem) kk) Q) := by
  subst hn hq hq' hm hm'
  unfold H1 H2 owesE room at_
  iintro ⟨#HR, ⟨%W, HO⟩, Hp, Hb, HI, Hs, Hr, Hc, Ht, ⟨⟨%v', Hd⟩, #Hrr⟩, ⟨Hs1, #Hs2⟩, ⟨Hr1, #Hr2⟩, Hc1, #Hc2⟩ Hk
  ihave Hp' := (pcs_take X d c (g := stA ph h) (srcJ_lt ph h hh) (fun j _ => rfl)) $$ Hp
  icases Hp' with ⟨Hsrc, Hp⟩
  ihave Hsrc' := (Entails.of_eq (pc_src X c ph d h hh)) $$ Hsrc
  unfold own owns
  icases Hsrc' with ⟨%fs, %hfs, Hsrc⟩
  icases Hd with ⟨%fd, %hfd, Hd⟩
  iapply (Rounds.wp_send_pointsTo_with 𝒱₀ ER (sched X) (c : Thread nD τ) none (c' := (Dev.tc (nxt d c) : Thread nD τ)) (src := chunkM d (srcK ph d c h))
      (dst := dstM ph d (nxt d c) h) (sS := .dma (sndS ph d h)) (sem := .dma (rcvS ph d h)) (hsc := hsc) (hsrc := hsrc) (hdst := hdst) (hsem := hsem) (κ₁ := κ (sndC ph d h c)) (κ₂ := κ (rcvC ph d h (nxt d c)))
      (r₁ := h / 2) (r₂ := h / 2) (d₁ := false) (d₂ := false) (fs := fs) (fd := fd) (F := reached ER (crdC ph d h c) (h / 2))
      (by rw [duties_snd X ph d h c hh]; exact Finset.mem_singleton_self _) (by rw [duties_rcv X ph d h (nxt d c) hh]; exact Finset.mem_singleton_self _)
      (h / 2) (h / 2) N (credit_dst ph d (nxt d c) h) (amount_snd X ph d h c (h / 2) false) (amount_rcv X ph d h (nxt d c) (h / 2) false) O hO (W := W)
      (by rw [payload_snd X ph d h c]; unfold sndPay own owns
          iintro H; iexists fs; isplitr; · ipureintro; exact hfs
          iexact H)
      (by rw [payload_rcv X ph d h (nxt d c)]; unfold rcvPay own owns; rw [prv_nxt]
          iintro ⟨H, #HF⟩; isplitl [H]
          · iexists _; isplitr; · ipureintro; exact (View.read_write_univ (v := (dstM ph d (nxt d c) h).view) (Val := Elt F) fd _).trans hfs
            iexact H
          · iexact HF)) $$ [Hsrc Hd HO Hs Hr]
  · isplitr; · iapply (recs_inv X κ c (snd_mem ph d h c)); iexact HR
    isplitr; · iapply (recs_inv X κ c (rcv_mem ph d h (nxt d c))); iexact HR
    isplitl [Hsrc]; · iexact Hsrc
    isplitl [Hd]; · isplitl [Hd]; · iexact Hd
                    iexact Hc2
    isplitl [HO]; · iexact HO
    isplitl [Hs]; · iexact Hs
    isplitr; · iexact Hs2
    isplitl [Hr]; · iexact Hr
    iexact Hrr
  iintro ⟨Hcs, HO⟩
  iapply Hk
  isplitl [HO]; · iexists W; iexact HO
  iframe
  iframe #

/-! ## The landing -/

/-- The wait for the neighbour's copy. -/
theorem wp_land (ph d : Bool) (h : ℕ) (hh : h ≤ 30) (q : DmaSem sig) (hq : q = rcvS ph d h) {m m' : Memref sig .tc .vmem S32x2048 .f32}
    {hsrc : m.view.WordExact} {hdst : m'.view.WordExact} (hN : m'.view.dmaCredit = N)
    {O : CellTallies nD τ sig ℕ} (hO : Above O (4 * (31 * ph.toNat + h) + 4))
    {α : Type} {Q : α → sProp 𝕄} {kk : PUnit → Pgm (F := F) α} :
    iprop(recs X κ c ∗ owesE c O ∗ H2 X ph d c h)
      ⊢ iprop(((owesE c O ∗ H3 X ph d c h) -∗ WP c (kk ⟨⟩) Q) -∗ WP c (.op (.waitDma2 q m m' hsrc hdst) kk) Q) := by
  subst hq
  unfold H2 H3
  iintro ⟨#HR, HO, Hp, Hb, HI, Hcs, Hcr, Ht, Hs, Hr, Hc⟩ Hk
  ihave Hcr' := (Entails.of_eq (show (cred (tallyAt (rcvC ph d h c) (h / 2) N) : sProp 𝕄) = cred (tallyAt (rcvC ph d h c) (h / 2) m'.view.dmaCredit) by rw [hN])) $$ Hcr
  iapply (wp_take X κ c (.dma (rcvS ph d h)) (h / 2) m'.view.dmaCredit (rcv_mem ph d h c) (duties_rcv X ph d h c hh)
      ((expect_rcv X ph d h c hh).trans hN.symm) (by omega) hO (le_of_eq (lv_rcv ph d h c)) (wpE_waitDma2_eq 𝒱₀ (c : Thread nD τ) none Set.univ)) $$ [HO Hcr' Hr]
  · isplitr; · iexact HR
    iframe
  iintro ⟨HO, Hat, Hpay⟩
  ihave Hpay' := (Entails.of_eq (payload_rcv X ph d h c false)) $$ Hpay
  unfold rcvPay
  icases Hpay' with ⟨Hd, #Hre⟩
  iapply Hk
  isplitl [HO]; · iexact HO
  iframe
  iframe #

/-- In the all-gather what lands is the finished chunk, in its own rows. -/
theorem land_ag (d : Bool) (h : ℕ) (hh : h ≤ 30) : H3 X true d c h ⊢ H4 X true d c h := by
  unfold H3 H4 freed
  rw [if_pos rfl]
  iintro ⟨Hp, Hd, #Hre, HB⟩
  have e : own c (dstM true d c h) (srcV X true d (prv d c) h) = pc X d c h .fin := by
    show own c (chunkM d (ck d c h)) (fin X d (ck d (prv d c) (h + 31))) = own c (chunkM d (ck d c h)) (fin X d (ck d c h))
    rw [ck_prv, show h + 31 + 1 = h + 32 from rfl, ck_period]
  isplitl [Hp Hd]
  · iapply (pcs_put X d c (f := stA true h) (g := stB true h) (i := h) .fin (by omega) (by simp only [stA, st, srcJ]; grind) (fun j hj => rfl))
    isplitl [Hd]; · iapply (Entails.of_eq e); iexact Hd
    iexact Hp
  isplitr; · iempintro
  isplitr; · iexact Hre
  iexact HB

/-- In the reduce-scatter what lands is added to the next chunk. -/
theorem wp_accum (d : Bool) (h s : ℕ) (hh : h ≤ 30) (hs : s = h % 2) (off : Fin 2 → ℕ) (hoff : off = crow d (ck d c (h + 1)))
    (mm : Memref sig .tc .vmem S2x32x2048 .f32) (hmm : mm = bufW d)
    (pay : Vec F S32x2048 .f32 → Vec F S1x32x2048 .f32 → FVec F S32x2048 .f32)
    (hpay : ∀ a b, pay a b = addf (shapeCast S32x2048 a shapeCasts_S32x2048_S32x2048 : FVec F S32x2048 .f32) (shapeCast S32x2048 b shapeCasts_S1x32x2048_S32x2048))
    {inb : ∀ a, off a + S32x2048.size a ≤ S2048x2048.size a} {inb' : ∀ a, (![s, 0, 0] : Fin 3 → ℕ) a + S1x32x2048.size a ≤ S2x32x2048.size a}
    {hl hl' : outM.view.LoadsAt (Rect.unit (s := S2048x2048) off S32x2048.size inb).toLoadRect}
    {hl2 : mm.view.LoadsAt (Rect.unit (s := S2x32x2048) ![s, 0, 0] S1x32x2048.size inb').toLoadRect}
    {hx : (outM.access (Rect.unit (s := S2048x2048) off S32x2048.size inb)).Stores Finset.univ}
    {hm : (Finset.univ : Finset (Rect.unit (s := S2048x2048) off S32x2048.size inb).shape.Idx) = Finset.univ ∨ ∀ a, (Rect.unit (s := S2048x2048) off S32x2048.size inb).stride a = 1}
    {α : Type} {Q : α → sProp 𝕄} {kk : PUnit → Pgm (F := F) α} :
    H3 X false d c h ⊢ iprop((H4 X false d c h -∗ WP c (kk ⟨⟩) Q)
      -∗ WP c (.op (.load outM (Rect.unit (s := S2048x2048) off S32x2048.size inb).toLoadRect hl) fun a =>
          .op (.load mm (Rect.unit (s := S2x32x2048) ![s, 0, 0] S1x32x2048.size inb').toLoadRect hl2) fun b =>
          .op (.load outM (Rect.unit (s := S2048x2048) off S32x2048.size inb).toLoadRect hl') fun _ =>
          .op (.store outM (Rect.unit (s := S2048x2048) off S32x2048.size inb) (pay a b) Finset.univ hx hm) kk) Q) := by
  unfold H3 H4 freed
  rw [if_neg Bool.false_ne_true]
  have hA : stA false h (h + 1) = .raw := by simp only [stA, st, srcJ]; grind
  iintro ⟨Hp, Hd, #Hre, HB⟩ Hk
  ihave Hp' := (pcs_take X d c (f := stA false h) (g := fun j => if j = h + 1 then .gone else stA false h j) (i := h + 1) (by omega) (fun j _ => rfl)) $$ Hp
  icases Hp' with ⟨Hsrc, Hp⟩
  ihave Hsrc' := (Entails.of_eq (show pc X d c (h + 1) (stA false h (h + 1)) = own c (chunkM d (ck d c (h + 1))) (chunkV (X c) d (ck d c (h + 1))) by rw [hA]; rfl)) $$ Hsrc
  iapply (wp_load_chunk c d (ck d c (h + 1)) _ off hoff) $$ Hsrc'
  iintro Hsrc
  ihave Hd' := (Entails.of_eq (show own c (dstM false d c h) (srcV X false d (prv d c) h) = own c (bufM d h) (acc X d h (prv d c)) from rfl)) $$ Hd
  iapply (wp_load_slot c d h s hs _ mm hmm) $$ Hd'
  iintro %w %hw Hd
  iapply (wp_load_chunk c d (ck d c (h + 1)) _ off hoff) $$ Hsrc
  iintro Hsrc
  iapply (wp_store_chunk c d (ck d c (h + 1)) _ _ off hoff) $$ Hsrc
  iintro Hsrc
  iapply Hk
  isplitl [Hp Hsrc]
  · iapply (pcs_put X d c (f := fun j => if j = h + 1 then .gone else stA false h j) (g := stB false h) (i := h + 1) .part (by omega) (if_pos rfl)
      (fun j hj => by simp only [stB, landJ]; grind))
    isplitl [Hsrc]
    · iapply (Entails.of_eq (show own c (chunkM d (ck d c (h + 1))) (pay (chunkV (X c) d (ck d c (h + 1))) w) = pc X d c (h + 1) .part by
        rw [hpay, hw, shapeCast_self]; rfl))
      iexact Hsrc
    iexact Hp
  isplitl [Hd]; · iexists _; iexact Hd
  isplitr; · iexact Hre
  iexact HB

/-! ## The credit -/

/-- The last two hops return no credit. -/
theorem credit_free (ph d : Bool) (h : ℕ) (h29 : 29 ≤ h) (hh : h ≤ 30) : H4 X ph d c h ⊢ H5 X ph d c h := by
  unfold H4 H5
  have e : pcs X d c (stB ph h) = pcs X d c (stC ph h) := pcs_congr X d c fun j hj => by simp only [stC]; rw [if_neg (by omega)]
  have eb : iprop(freed (F := F) ph d c h ∗ bufs ph d c h) ⊢ bufs ph d c (h + 1) := by
    unfold freed bufs
    cases ph
    · rw [if_neg Bool.false_ne_true]
      obtain rfl | rfl : h = 29 ∨ h = 30 := by omega
      · rw [if_neg (by decide), if_neg (by decide), if_neg (by decide), if_pos rfl]; iintro ⟨H, -⟩; iexact H
      · rw [if_neg (by decide), if_pos rfl, if_pos (by decide)]; iintro ⟨H, H'⟩; isplitl [H']; · iexact H'
        iexact H
    · rw [if_pos rfl, if_pos (Or.inl rfl), if_pos (Or.inl rfl)]; iintro ⟨-, H⟩; iexact H
  rw [e]
  iintro ⟨Hp, Hf, -, Hb, HI, Hcs, -, HB⟩
  ihave Hb' := eb $$ [Hf Hb]
  · isplitl [Hf]; · iexact Hf
    iexact Hb
  iframe

set_option maxHeartbeats 1000000 in
/-- What a credit hands over, from what the hop has left. -/
theorem credit_pay (ph d : Bool) (h : ℕ) (hh : h ≤ 28) :
    iprop(recs X κ c ∗ pcs X d c (stB ph h) ∗ freed ph d c h ∗ bufs ph d c h ∗ reached ER (rcvC ph d h c) (h / 2 + 1))
      ⊢ iprop(crdPay (F := F) ph d h (prv d c) ∗ pcs X d c (stC ph h) ∗ bufs ph d c (h + 1)) := by
  have er : (reached ER (rcvC ph d h c) (h / 2 + 1) : sProp 𝕄) = reached ER (rcvC ph d (h + 2) c) ((h + 2) / 2) := by
    unfold rcvC; rw [rcvS_two, show (h + 2) / 2 = h / 2 + 1 by omega]
  unfold crdPay room
  rw [nxt_prv, er]
  cases ph
  · unfold freed bufs
    rw [if_neg Bool.false_ne_true, if_neg (by simp only [Bool.false_eq_true, false_or]; omega), if_neg (by omega),
      if_neg (by simp only [Bool.false_eq_true, false_or]; omega), if_neg (by omega)]
    have ed : ownAny (F := F) c (bufM d h) = ownAny c (dstM false d c (h + 2)) := by
      show ownAny (F := F) c (bufM d h) = ownAny c (bufM d (h + 2)); rw [bufM_add_two]
    rw [ed]
    have ex : iprop(recs X κ c ∗ pcs X d c (stB false h)) ⊢ iprop(extra (F := F) false d (prv d c) h ∗ pcs X d c (stC false h)) := by
      by_cases h28 : h = 28
      · subst h28
        show iprop(recs X κ c ∗ pcs X d c (stB false 28)) ⊢ iprop((room (F := F) true d (prv d c) 0 ∗ room true d (prv d c) 1) ∗ pcs X d c (stC false 28))
        unfold room
        rw [nxt_prv]
        iintro ⟨#HR, Hp⟩
        ihave Hp' := (pcs_take X d c (f := stB false 28) (g := fun j => if j = 0 then .gone else stB false 28 j) (i := 0) (by decide) (fun j _ => rfl)) $$ Hp
        icases Hp' with ⟨H0, Hp⟩
        ihave Hp' := (pcs_take X d c (f := fun j => if j = 0 then .gone else stB false 28 j) (g := stC false 28) (i := 1) (by decide)
          (fun j hj => by simp only [stC]; grind)) $$ Hp
        icases Hp' with ⟨H1, Hp⟩
        isplitr [Hp]
        · isplitl [H0]
          · isplitl [H0]; · iapply (Entails.of_eq (show pc X d c 0 (stB false 28 0) = ownAny c (dstM true d c 0) from rfl)); iexact H0
            iapply (recs_rcv X κ c d 0); iexact HR
          · isplitl [H1]; · iapply (Entails.of_eq (show pc X d c 1 (if 1 = 0 then PS.gone else stB false 28 1) = ownAny c (dstM true d c 1) from rfl)); iexact H1
            iapply (recs_rcv X κ c d 1); iexact HR
        · iexact Hp
      · rw [show extra (F := F) false d (prv d c) h = iprop(emp) from if_neg h28,
          show pcs X d c (stC false h) = pcs X d c (stB false h) from pcs_congr X d c fun j hj => by simp only [stC]; grind]
        iintro ⟨-, Hp⟩
        isplitr; · iempintro
        iexact Hp
    iintro ⟨#HR, Hp, Hf, -, #Hre⟩
    ihave Hx := ex $$ [Hp]
    · isplitr; · iexact HR
      iexact Hp
    icases Hx with ⟨Hx, Hp⟩
    isplitl [Hf Hx]
    · isplitl [Hf]
      · isplitl [Hf]; · iexact Hf
        iexact Hre
      iexact Hx
    isplitl [Hp]; · iexact Hp
    iempintro
  · have eb : bufs (F := F) true d c (h + 1) = bufs true d c h := by unfold bufs; rw [if_pos (Or.inl rfl), if_pos (Or.inl rfl)]
    rw [eb]
    have hB : stB true h (h + 2) = .any := by simp only [stB, stA, st, srcJ, landJ]; grind
    iintro ⟨-, Hp, -, Hb, #Hre⟩
    ihave Hp' := (pcs_take X d c (f := stB true h) (g := stC true h) (i := h + 2) (by omega) (fun j hj => by simp only [stC]; grind)) $$ Hp
    icases Hp' with ⟨Hc, Hp⟩
    isplitl [Hc]
    · isplitl [Hc]
      · isplitl [Hc]
        · iapply (Entails.of_eq (show pc X d c (h + 2) (stB true h (h + 2)) = ownAny c (dstM true d c (h + 2)) by rw [hB]; rfl)); iexact Hc
        iexact Hre
      unfold extra; iempintro
    isplitl [Hp]; · iexact Hp
    iexact Hb

/-- The credit to the sender, returned by every hop but the last two. -/
theorem wp_credit (ph d : Bool) (h : ℕ) (hh : h ≤ 30) (b : BitVec 1) (hb : b = 1#1 ↔ h ≤ 28) (n : b = 1#1 → Dev nD) (hn : ∀ e, n e = prv d c)
    (q : Sem sig) (hq : q = crdS ph d h) (k' : ℕ) (hk : k' = 1) {O₀ : CellTallies nD τ sig ℕ} (O : CellTallies nD τ sig ℕ) (hO : O₀ = O + owC ph d c h)
    {Q : PUnit → sProp 𝕄} :
    iprop(recs X κ c ∗ owesE c O₀ ∗ H4 X ph d c h)
      ⊢ iprop(((owesE c O ∗ H5 X ph d c h) -∗ Q ⟨⟩)
        -∗ WP c (if e : b = 1#1 then Prog.op (.semSignal (Dev.tc (n e) : Thread nD τ) q k') (fun _ => .ret ⟨⟩) else .ret ⟨⟩) Q) := by
  subst hq hk hO
  by_cases h28 : h ≤ 28
  · rw [dif_pos (hb.mpr h28), hn]
    unfold owC; rw [if_pos h28]
    unfold H4 H5 ctok owesE at_
    rw [if_pos h28]
    iintro ⟨#HR, ⟨%W, HO⟩, Hp, Hf, #Hre, Hb, HI, Hcs, Ht, Hs, ⟨Hr1, #Hr2⟩, Hc⟩ Hk
    ihave Hx := (credit_pay X κ c ph d h h28) $$ [Hp Hf Hb]
    · isplitr; · iexact HR
      isplitl [Hp]; · iexact Hp
      isplitl [Hf]; · iexact Hf
      isplitl [Hb]; · iexact Hb
      iexact Hr2
    icases Hx with ⟨Hpay, Hp, Hb⟩
    iapply (Rounds.wp_signal 𝒱₀ ER (sched X) (c : Thread nD τ) none (dst := (Dev.tc (prv d c) : Thread nD τ)) (κ := κ (crdC ph d h (prv d c))) (r := h / 2)
        (d := false) (by rw [duties_crd X ph d h (prv d c) h28]; exact Finset.mem_singleton_self _) (amount_crd X ph d h (prv d c) (h / 2) false) (h / 2) O rfl (W := W))
      $$ [HO Ht Hpay]
    · isplitr; · iapply (recs_inv X κ c (crd_mem ph d h (prv d c))); iexact HR
      isplitl [HO]; · iexact HO
      isplitl [Ht]; · iexact Ht
      isplitl [Hpay]; · iapply (Entails.of_eq (payload_crd X ph d h (prv d c) false).symm); iexact Hpay
      iexact Hre
    iintro HO
    rw [wp_ret]; imodintro
    iapply Hk
    isplitl [HO]; · iexists W; iexact HO
    iframe
    iframe #
  · unfold WP; rw [dif_neg (fun e => h28 (hb.mp e)), wp_ret, show owC ph d c h = 0 from if_neg h28, add_zero]
    iintro ⟨-, HO, H⟩ Hk
    imodintro
    iapply Hk
    isplitl [HO]; · iexact HO
    iapply (credit_free X c ph d h (by omega) hh); iexact H

/-! ## The completion of the copy -/

/-- The wait for the hop's own copy: its source comes back. -/
theorem wp_sent (ph d : Bool) (h : ℕ) (hh : h ≤ 30) (q : DmaSem sig) (hq : q = sndS ph d h) {m m' : Memref sig .tc .vmem S32x2048 .f32}
    {hsrc : m.view.WordExact} {hdst : m'.view.WordExact} (hN : m'.view.dmaCredit = N)
    {O : CellTallies nD τ sig ℕ} (hO : Above O (4 * (31 * ph.toNat + h) + 4))
    {α : Type} {Q : α → sProp 𝕄} {kk : PUnit → Pgm (F := F) α} :
    iprop(recs X κ c ∗ owesE c O ∗ H5 X ph d c h)
      ⊢ iprop(((owesE c O ∗ H0 X ph d c (h + 1)) -∗ WP c (kk ⟨⟩) Q) -∗ WP c (.op (.waitDma2 q m m' hsrc hdst) kk) Q) := by
  subst hq
  unfold H5 H0 idle
  iintro ⟨#HR, HO, Hp, Hb, ⟨HT, Hroom, Hs', Hr', Hc'⟩, Hcs, Hs, Hr, Hc⟩ Hk
  ihave Hcs' := (Entails.of_eq (show (cred (tallyAt (sndC ph d h c) (h / 2) N) : sProp 𝕄) = cred (tallyAt (sndC ph d h c) (h / 2) m'.view.dmaCredit) by rw [hN])) $$ Hcs
  iapply (wp_take X κ c (.dma (sndS ph d h)) (h / 2) m'.view.dmaCredit (snd_mem ph d h c) (duties_snd X ph d h c hh)
      ((expect_snd X ph d h c hh).trans hN.symm) (by omega) hO (le_of_eq (lv_snd ph d h c)) (wpE_waitDma2_eq 𝒱₀ (c : Thread nD τ) none Set.univ)) $$ [HO Hcs' Hs]
  · isplitr; · iexact HR
    iframe
  iintro ⟨HO, Hs, Hpay⟩
  ihave Hpay' := (Entails.of_eq (payload_snd X ph d h c false)) $$ Hpay
  unfold sndPay
  ihave Hsrc := (Entails.of_eq (pc_src X c ph d h hh).symm) $$ Hpay'
  have hsrc : pc X d c (srcJ ph h) (st ph h (srcJ ph h)) ⊢ pc X d c (srcJ ph h) (if ph then .fin else .any) := by
    rw [st_src ph h hh]
    cases ph
    · exact pc_any X d c _ .part PS.noConfusion
    · exact BI.Entails.refl _
  ihave Hsrc := hsrc $$ Hsrc
  ihave Hs := (Entails.of_eq (at_two_snd ph d c h)) $$ Hs
  ihave Hr := (Entails.of_eq (at_two_rcv ph d c h)) $$ Hr
  ihave Hc := (Entails.of_eq (at_two_crd ph d c h)) $$ Hc
  iapply Hk
  isplitl [HO]; · iexact HO
  isplitl [Hp Hsrc]
  · iapply (pcs_put X d c (f := stC ph h) (g := st ph (h + 1)) (i := srcJ ph h) (if ph then .fin else .any) (srcJ_lt ph h hh) (stC_src ph h hh)
      (fun j hj => st_succ ph h j hh hj))
    isplitl [Hsrc]; · iexact Hsrc
    iexact Hp
  iframe

end Steps

end Cert.KProof

end
-- ==== Proof.Loops.lean ====
/-
  The two loops: a trip of the reduce-scatter and a trip of the all-gather, each
  in both directions, from the state before its hop to the state after.
-/
module

public import proofs.«01_k».proof.Proof.Hop

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Dev nD → Vec F S2048x2048 .f32) (κ : GSem nD τ sig → ℕ) (c : Dev nD)

/-- A phase before hop `h`, both directions. -/
def inv (ph : Bool) (h : ℕ) : sProp 𝕄 := iprop(recs X κ c ∗ owesE c (ow ph c h) ∗ H0 X ph false c h ∗ H0 X ph true c h)

/-- The guarded waits at a hop's head: both directions have room to send. -/
theorem wp_enter (ph : Bool) (h : ℕ) (h30 : h ≤ 30) (b : BitVec 1) (hb : b = 1#1 ↔ 2 ≤ h) (q q' : Sem sig) (hq : q = crdS ph false h) (hq' : q' = crdS ph true h)
    (n n' : ℕ) (hn : n = 1) (hn' : n' = 1) {Q : PUnit → sProp 𝕄} :
    iprop(recs X κ c ∗ owesE c (ow ph c h) ∗ H0 X ph false c h ∗ H0 X ph true c h)
      ⊢ iprop(((owesE c (ow ph c h) ∗ H1 X ph false c h ∗ H1 X ph true c h) -∗ Q ⟨⟩)
        -∗ WP c (if e : b = 1#1 then Prog.op (.semWait q n) (fun _ => Prog.op (.semWait q' n') (fun _ => .ret ⟨⟩)) else .ret ⟨⟩) Q) := by
  by_cases h2 : 2 ≤ h
  · rw [dif_pos (hb.mpr h2)]
    have hO : Above (ow ph c h) (4 * (31 * ph.toNat + h)) := above_ow ph c h _ (by omega) (by omega)
    iintro ⟨#HR, HO, HA, HB⟩ Hk
    iapply (wp_crd X κ c ph false h h2 h30 q hq n hn hO) $$ [HO HA]
    · isplitr; · iexact HR
      isplitl [HO]; · iexact HO
      iexact HA
    iintro ⟨HO, HA⟩
    iapply (wp_crd X κ c ph true h h2 h30 q' hq' n' hn' hO) $$ [HO HB]
    · isplitr; · iexact HR
      isplitl [HO]; · iexact HO
      iexact HB
    iintro ⟨HO, HB⟩
    unfold WP; rw [wp_ret]; imodintro
    iapply Hk
    isplitl [HO]; · iexact HO
    isplitl [HA]; · iexact HA
    iexact HB
  · unfold WP; rw [dif_neg (fun e => h2 (hb.mp e)), wp_ret]
    iintro ⟨#HR, HO, HA, HB⟩ Hk
    imodintro
    iapply Hk
    isplitl [HO]; · iexact HO
    isplitl [HA]; · iapply (enter_free X c ph false h (by omega)); iexact HA
    iapply (enter_free X c ph true h (by omega)); iexact HB

/-- A conditional prefix before a common continuation is run by itself. -/
theorem wp_prefix {b : BitVec 1} {α : Type} {p : b = 1#1 → Pgm (F := F) PUnit} {K : Pgm (F := F) α} {pk : b = 1#1 → Pgm (F := F) α}
    (hp : ∀ e, pk e = (p e >>= fun _ => K)) {Q : α → sProp 𝕄} :
    WP c (if e : b = 1#1 then p e else .ret ⟨⟩) (fun _ => WP c K Q) ⊢ WP c (if e : b = 1#1 then pk e else K) Q := by
  have h : (if e : b = 1#1 then pk e else K) = ((if e : b = 1#1 then p e else Prog.ret ⟨⟩) >>= fun _ => K) := by
    by_cases e : b = 1#1
    · rw [dif_pos e, dif_pos e, hp]
    · rw [dif_neg e, dif_neg e]; rfl
  unfold WP; rw [h, wp_bind]

/-- The guarded waits and both copies of a hop. -/
theorem wp_start (ph : Bool) (h : ℕ) (h30 : h ≤ 30) (b : BitVec 1) (hb : b = 1#1 ↔ 2 ≤ h) (q q' : Sem sig) (hq : q = crdS ph false h) (hq' : q' = crdS ph true h)
    (n n' : ℕ) (hn : n = 1) (hn' : n' = 1)
    (e e' : Dev nD) (he : e = nxt false c) (he' : e' = nxt true c)
    (s s' r r' : DmaSem sig) (hs : s = sndS ph false h) (hs' : s' = sndS ph true h) (hr : r = rcvS ph false h) (hr' : r' = rcvS ph true h)
    (m : Memref sig .tc .vmem S32x2048 .f32) (hm : m = chunkM false (srcK ph false c h)) (w : Memref sig .tc .vmem S32x2048 .f32) (hw : w = dstM ph false (nxt false c) h)
    (m' : Memref sig .tc .vmem S32x2048 .f32) (hm' : m' = chunkM true (srcK ph true c h)) (w' : Memref sig .tc .vmem S32x2048 .f32) (hw' : w' = dstM ph true (nxt true c) h)
    {hsc : (w : Memref sig (Dev.tc e : Thread nD τ).2.kind .vmem S32x2048 .f32).view.ref.isScScratch = false}
    {hsrc : m.view.WordExact} {hdst : (w : Memref sig .tc .vmem S32x2048 .f32).view.WordExact}
    {hsem : DmaTarget.Typed .vmem (.dma r) (.remote (Dev.tc e : Thread nD τ) (w : Memref sig .tc .vmem S32x2048 .f32) (.dma s) hsc)}
    {hsc' : (w' : Memref sig (Dev.tc e' : Thread nD τ).2.kind .vmem S32x2048 .f32).view.ref.isScScratch = false}
    {hsrc' : m'.view.WordExact} {hdst' : (w' : Memref sig .tc .vmem S32x2048 .f32).view.WordExact}
    {hsem' : DmaTarget.Typed .vmem (.dma r') (.remote (Dev.tc e' : Thread nD τ) (w' : Memref sig .tc .vmem S32x2048 .f32) (.dma s') hsc')}
    {α : Type} {Q : α → sProp 𝕄} {K : Pgm (F := F) α} :
    inv X κ c ph h ⊢ iprop(((recs X κ c ∗ owesE c (ow2 ph c h) ∗ H2 X ph false c h ∗ H2 X ph true c h) -∗ WP c K Q)
      -∗ WP c (if e1 : b = 1#1 then
          Prog.op (.semWait q n) fun _ => Prog.op (.semWait q' n') fun _ =>
            .op (.enqueueDma m (.remote (Dev.tc e : Thread nD τ) w (.dma s) hsc) (.dma r) hsrc hdst hsem) fun _ =>
            .op (.enqueueDma m' (.remote (Dev.tc e' : Thread nD τ) w' (.dma s') hsc') (.dma r') hsrc' hdst' hsem') fun _ => K
        else
            .op (.enqueueDma m (.remote (Dev.tc e : Thread nD τ) w (.dma s) hsc) (.dma r) hsrc hdst hsem) fun _ =>
            .op (.enqueueDma m' (.remote (Dev.tc e' : Thread nD τ) w' (.dma s') hsc') (.dma r') hsrc' hdst' hsem') fun _ => K) Q) := by
  refine BIBase.Entails.trans ?_ (wand_mono .rfl (wp_prefix c (p := fun _ => Prog.op (.semWait q n) fun _ => Prog.op (.semWait q' n') fun _ => .ret ⟨⟩) (fun _ => rfl)))
  unfold inv
  iintro ⟨#HR, HO, HA, HB⟩ Hk
  iapply (wp_enter X κ c ph h h30 b hb q q' hq hq' n n' hn hn') $$ [HO HA HB]
  · isplitr; · iexact HR
    iframe
  iintro ⟨HO, HA, HB⟩
  iapply (wp_copy X κ c ph false h h30 e he s r hs hr m hm w hw (ow3 ph c h) (ow_peel ph c h h30)) $$ [HO HA]
  · isplitr; · iexact HR
    iframe
  iintro ⟨HO, HA⟩
  iapply (wp_copy X κ c ph true h h30 e' he' s' r' hs' hr' m' hm' w' hw' (ow2 ph c h) rfl) $$ [HO HB]
  · isplitr; · iexact HR
    isplitl [HO]; · iexact HO
    iexact HB
  iintro ⟨HO, HB⟩
  iapply Hk
  isplitr; · iexact HR
  iframe

/-- The conditional credit, before a common continuation. -/
theorem wp_credit_then (ph d : Bool) (h : ℕ) (hh : h ≤ 30) (b : BitVec 1) (hb : b = 1#1 ↔ h ≤ 28) (n : b = 1#1 → Dev nD) (hn : ∀ e, n e = prv d c)
    (q : Sem sig) (hq : q = crdS ph d h) (k' : ℕ) (hk : k' = 1) {O₀ : CellTallies nD τ sig ℕ} (O : CellTallies nD τ sig ℕ) (hO : O₀ = O + owC ph d c h)
    {α : Type} {Q : α → sProp 𝕄} {K : Pgm (F := F) α} :
    iprop(recs X κ c ∗ owesE c O₀ ∗ H4 X ph d c h)
      ⊢ iprop(((owesE c O ∗ H5 X ph d c h) -∗ WP c K Q)
        -∗ WP c (if e : b = 1#1 then Prog.op (.semSignal (Dev.tc (n e) : Thread nD τ) q k') (fun _ => K) else K) Q) := by
  refine BIBase.Entails.trans ?_ (wand_mono .rfl (wp_prefix c (p := fun e => Prog.op (.semSignal (Dev.tc (n e) : Thread nD τ) q k') (fun _ => .ret ⟨⟩)) (fun _ => rfl)))
  exact wp_credit X κ c ph d h hh b hb n hn q hq k' hk O hO (Q := fun _ => WP c K Q)

/-- The two send waits at a hop's end. -/
theorem wp_finish (ph : Bool) (h : ℕ) (h30 : h ≤ 30) (q q' : DmaSem sig) (hq : q = sndS ph false h) (hq' : q' = sndS ph true h)
    {m w m' w' : Memref sig .tc .vmem S32x2048 .f32} {hsrc : m.view.WordExact} {hdst : w.view.WordExact} (hN : w.view.dmaCredit = N)
    {hsrc' : m'.view.WordExact} {hdst' : w'.view.WordExact} (hN' : w'.view.dmaCredit = N)
    {α : Type} {Q : α → sProp 𝕄} {K : Pgm (F := F) α} :
    iprop(recs X κ c ∗ owesE c (ow ph c (h + 1)) ∗ H5 X ph false c h ∗ H5 X ph true c h)
      ⊢ iprop((inv X κ c ph (h + 1) -∗ WP c K Q)
        -∗ WP c (.op (.waitDma2 q m w hsrc hdst) fun _ => .op (.waitDma2 q' m' w' hsrc' hdst') fun _ => K) Q) := by
  have hO : Above (ow ph c (h + 1)) (4 * (31 * ph.toNat + h) + 4) := above_ow ph c (h + 1) _ (by omega) (by omega)
  unfold inv
  iintro ⟨#HR, HO, HA, HB⟩ Hk
  iapply (wp_sent X κ c ph false h h30 q hq hN hO) $$ [HO HA]
  · isplitr; · iexact HR
    iframe
  iintro ⟨HO, HA⟩
  iapply (wp_sent X κ c ph true h h30 q' hq' hN' hO) $$ [HO HB]
  · isplitr; · iexact HR
    iframe
  iintro ⟨HO, HB⟩
  iapply Hk
  isplitr; · iexact HR
  iframe

/-- Rows at a chunk's offset are that chunk. -/
theorem chunk_eq {d : Bool} {k : Fin 32} {off : Fin 2 → ℕ} (e : off = crow d k) {inb : ∀ a, off a + S32x2048.size a ≤ S2048x2048.size a} :
    outM.slice (Rect.unit (s := S2048x2048) off S32x2048.size inb) (fun _ => rfl) = chunkM d k := by
  subst e; rfl

/-- The slot of a hop's parity is that hop's slot. -/
theorem buf_eq (d : Bool) (h s : ℕ) (e : h % 2 = s) {inb : ∀ a, (![s, 0, 0] : Fin 3 → ℕ) a + S1x32x2048.size a ≤ S2x32x2048.size a} :
    ((bufW d).slice (Rect.unit (s := S2x32x2048) ![s, 0, 0] S1x32x2048.size inb) (fun _ => rfl)).squeeze S32x2048 squeezes_S1x32x2048_S32x2048 = bufM d h := by
  subst e; rfl

section Reduce
variable (k0_hw3 : k0_chk3 (qw c)) (k0_hw1 : k0_chk1 (dw (prv false c))) (k0_hw2 : k0_chk2 (dw (nxt false c)))

/-- One trip of the reduce-scatter's loop. -/
abbrev rsBody (t : Fin k0_t1_loop.trips) : Pgm (F := F) Unit :=
  k0_t1_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12 cc0_scratch13
    (qw c) k0_hw3 (dw (prv false c)) k0_hw1 (dw (nxt false c)) k0_hw2 t ()

set_option maxHeartbeats 2000000 in
/-- An even trip of the reduce-scatter. -/
theorem rs_even (t : Fin k0_t1_loop.trips) (hp : t.val % 2 = 0) :
    inv X κ c false t.val ⊢ WP c (rsBody c k0_hw3 k0_hw1 k0_hw2 t) (fun _ => inv X κ c false (t.val + 1)) := by
  have h30 : t.val ≤ 30 := by have h := t.isLt; have e := trips1; omega
  have hc := (cond1_iff t).mpr hp
  have hc' : ¬ k0_cond5 t = 1#1 := fun e => by have := (cond5_iff t).mp e; omega
  unfold rsBody k0_t1_body
  simp only [dif_pos hc, dif_neg hc']
  simp only [k0_part1_eq_skeleton, k0_part2_eq_skeleton]; unfold k0_part1_skel k0_part2_skel
  simp only [semSignalWord, semWaitWord, Prog.lift, Prog.bind_op, Prog.bind_ret, Prog.pure_eq_ret, Prog.bind_assoc]
  unfold WP; rw [wp_bind]
  iintro H
  iapply (wp_start X κ c false t.val h30 _ (guard_iff ⟨t.val, by omega⟩) _ _ (by rw [← crdS_mod, hp]; rfl) (by rw [← crdS_mod, hp]; rfl) _ _ rfl rfl
     _ _ (Fin.ext (dev3_eq _)) (Fin.ext ((dev4_eq _).trans (congrArg Fin.val (by rw [← prv_not]; rfl))))
     _ _ _ _ (by rw [← sndS_mod, hp]; rfl) (by rw [← sndS_mod, hp]; rfl) (by rw [← rcvS_mod, hp]; rfl) (by rw [← rcvS_mod, hp]; rfl)
     _ (chunk_eq (off1_eq c t)) _ (buf_eq _ _ _ hp) _ (chunk_eq (off2_eq c t)) _ (buf_eq _ _ _ hp)) $$ H
  iintro ⟨#HR, HO, HA, HB⟩
  unfold WP; rw [wp_ret]; imodintro
  iapply (wp_land X κ c false false t.val h30 _ (by rw [← rcvS_mod, hp]; rfl) (by rfl) (above_ow2 false c t.val _ h30 (by omega))) $$ [HO HA]
  · isplitr; · iexact HR
    iframe
  iintro ⟨HO, HA⟩
  iapply (wp_accum X c false t.val 0 h30 hp.symm _ (off3_eq c t) _ rfl k0_pay3 (fun _ _ => rfl)) $$ HA
  iintro HA
  unfold WP; rw [wp_bind]
  iapply (wp_credit_then X κ c false false t.val h30 _ (cond3_iff t) _ (fun _ => Fin.ext (dev5_eq _)) _ (by rw [← crdS_mod, hp]; rfl) _ rfl (ow1 false c t.val) rfl) $$ [HO HA]
  · isplitr; · iexact HR
    isplitl [HO]; · iexact HO
    iexact HA
  iintro ⟨HO, HA⟩
  iapply (wp_land X κ c false true t.val h30 _ (by rw [← rcvS_mod, hp]; rfl) (by rfl) (above_ow1 false c t.val _ h30 (by omega))) $$ [HO HB]
  · isplitr; · iexact HR
    iframe
  iintro ⟨HO, HB⟩
  iapply (wp_accum X c true t.val 0 h30 hp.symm _ (off4_eq c t) _ rfl k0_pay4 (fun _ _ => rfl)) $$ HB
  iintro HB
  unfold WP; rw [wp_ret]; imodintro
  iapply (wp_credit_then X κ c false true t.val h30 _ (cond4_iff t) _ (fun _ => Fin.ext ((dev6_eq _).trans (congrArg Fin.val (prv_not false c).symm))) _ (by rw [← crdS_mod, hp]; rfl) _ rfl (ow false c (t.val + 1)) rfl) $$ [HO HB]
  · isplitr; · iexact HR
    isplitl [HO]; · iexact HO
    iexact HB
  iintro ⟨HO, HB⟩
  iapply (wp_finish X κ c false t.val h30 _ _ (by rw [← sndS_mod, hp]; rfl) (by rw [← sndS_mod, hp]; rfl) (by rfl) (by rfl)) $$ [HO HA HB]
  · isplitr; · iexact HR
    iframe
  iintro H
  unfold WP; rw [wp_ret]; imodintro
  iexact H
set_option maxHeartbeats 2000000 in
/-- An odd trip of the reduce-scatter. -/
theorem rs_odd (t : Fin k0_t1_loop.trips) (hp : t.val % 2 = 1) :
    inv X κ c false t.val ⊢ WP c (rsBody c k0_hw3 k0_hw1 k0_hw2 t) (fun _ => inv X κ c false (t.val + 1)) := by
  have h30 : t.val ≤ 30 := by have h := t.isLt; have e := trips1; omega
  have hc := (cond5_iff t).mpr hp
  have hc' : ¬ k0_cond1 t = 1#1 := fun e => by have := (cond1_iff t).mp e; omega
  unfold rsBody k0_t1_body
  simp only [dif_pos hc, dif_neg hc']
  simp only [k0_part3_eq_skeleton, k0_part4_eq_skeleton]; unfold k0_part3_skel k0_part4_skel
  simp only [semSignalWord, semWaitWord, Prog.lift, Prog.bind_op, Prog.bind_ret, Prog.pure_eq_ret, Prog.bind_assoc]
  unfold WP; rw [wp_bind]
  iintro H
  iapply (wp_start X κ c false t.val h30 _ (guard_iff ⟨t.val, by omega⟩) _ _ (by rw [← crdS_mod, hp]; rfl) (by rw [← crdS_mod, hp]; rfl) _ _ rfl rfl
     _ _ (Fin.ext (dev7_eq _)) (Fin.ext ((dev8_eq _).trans (congrArg Fin.val (by rw [← prv_not]; rfl))))
     _ _ _ _ (by rw [← sndS_mod, hp]; rfl) (by rw [← sndS_mod, hp]; rfl) (by rw [← rcvS_mod, hp]; rfl) (by rw [← rcvS_mod, hp]; rfl)
     _ (chunk_eq (off5_eq c t)) _ (buf_eq _ _ _ hp) _ (chunk_eq (off6_eq c t)) _ (buf_eq _ _ _ hp)) $$ H
  iintro ⟨#HR, HO, HA, HB⟩
  unfold WP; rw [wp_ret]; imodintro
  iapply (wp_land X κ c false false t.val h30 _ (by rw [← rcvS_mod, hp]; rfl) (by rfl) (above_ow2 false c t.val _ h30 (by omega))) $$ [HO HA]
  · isplitr; · iexact HR
    iframe
  iintro ⟨HO, HA⟩
  iapply (wp_accum X c false t.val 1 h30 hp.symm _ (off7_eq c t) _ rfl k0_pay5 (fun _ _ => rfl)) $$ HA
  iintro HA
  unfold WP; rw [wp_bind]
  iapply (wp_credit_then X κ c false false t.val h30 _ (cond7_iff t) _ (fun _ => Fin.ext (dev9_eq _)) _ (by rw [← crdS_mod, hp]; rfl) _ rfl (ow1 false c t.val) rfl) $$ [HO HA]
  · isplitr; · iexact HR
    isplitl [HO]; · iexact HO
    iexact HA
  iintro ⟨HO, HA⟩
  iapply (wp_land X κ c false true t.val h30 _ (by rw [← rcvS_mod, hp]; rfl) (by rfl) (above_ow1 false c t.val _ h30 (by omega))) $$ [HO HB]
  · isplitr; · iexact HR
    iframe
  iintro ⟨HO, HB⟩
  iapply (wp_accum X c true t.val 1 h30 hp.symm _ (off8_eq c t) _ rfl k0_pay6 (fun _ _ => rfl)) $$ HB
  iintro HB
  unfold WP; rw [wp_ret]; imodintro
  iapply (wp_credit_then X κ c false true t.val h30 _ (cond8_iff t) _ (fun _ => Fin.ext ((dev10_eq _).trans (congrArg Fin.val (prv_not false c).symm))) _ (by rw [← crdS_mod, hp]; rfl) _ rfl (ow false c (t.val + 1)) rfl) $$ [HO HB]
  · isplitr; · iexact HR
    isplitl [HO]; · iexact HO
    iexact HB
  iintro ⟨HO, HB⟩
  iapply (wp_finish X κ c false t.val h30 _ _ (by rw [← sndS_mod, hp]; rfl) (by rw [← sndS_mod, hp]; rfl) (by rfl) (by rfl)) $$ [HO HA HB]
  · isplitr; · iexact HR
    iframe
  iintro H
  unfold WP; rw [wp_ret]; imodintro
  iexact H

/-- A trip of the reduce-scatter. -/
theorem rs_trip (t : Fin k0_t1_loop.trips) :
    inv X κ c false t.val ⊢ WP c (rsBody c k0_hw3 k0_hw1 k0_hw2 t) (fun _ => inv X κ c false (t.val + 1)) := by
  rcases Nat.mod_two_eq_zero_or_one t.val with hp | hp
  · exact rs_even X κ c k0_hw3 k0_hw1 k0_hw2 t hp
  · exact rs_odd X κ c k0_hw3 k0_hw1 k0_hw2 t hp

end Reduce

section Gather
variable (k0_hw3 : k0_chk3 (qw c)) (k0_hw1 : k0_chk1 (dw (prv false c))) (k0_hw2 : k0_chk2 (dw (nxt false c)))

/-- One trip of the all-gather's loop. -/
abbrev agBody (t : Fin k0_t2_loop.trips) : Pgm (F := F) Unit :=
  k0_t2_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12 cc0_scratch13
    (qw c) k0_hw3 (dw (prv false c)) k0_hw1 (dw (nxt false c)) k0_hw2 t ()

set_option maxHeartbeats 2000000 in
/-- An even trip of the all-gather. -/
theorem ag_even (t : Fin k0_t2_loop.trips) (hp : t.val % 2 = 0) :
    inv X κ c true t.val ⊢ WP c (agBody c k0_hw3 k0_hw1 k0_hw2 t) (fun _ => inv X κ c true (t.val + 1)) := by
  have h30 : t.val ≤ 30 := by have h := t.isLt; have e := trips2; omega
  have hc := (cond9_iff t).mpr hp
  have hc' : ¬ k0_cond13 t = 1#1 := fun e => by have := (cond13_iff t).mp e; omega
  unfold agBody k0_t2_body
  simp only [dif_pos hc, dif_neg hc']
  simp only [k0_part5_eq_skeleton]; unfold k0_part5_skel
  simp only [semSignalWord, semWaitWord, Prog.lift, Prog.bind_op, Prog.bind_ret, Prog.pure_eq_ret, Prog.bind_assoc]
  unfold WP; rw [wp_bind]
  iintro H
  iapply (wp_start X κ c true t.val h30 _ (guard_iff ⟨t.val, by omega⟩) _ _ (by rw [← crdS_mod, hp]; rfl) (by rw [← crdS_mod, hp]; rfl) _ _ rfl rfl
     _ _ (Fin.ext (dev11_eq _)) (Fin.ext ((dev12_eq _).trans (congrArg Fin.val (by rw [← prv_not]; rfl))))
     _ _ _ _ (by rw [← sndS_mod, hp]; rfl) (by rw [← sndS_mod, hp]; rfl) (by rw [← rcvS_mod, hp]; rfl) (by rw [← rcvS_mod, hp]; rfl)
     _ (chunk_eq (off11_eq c t)) _ ((chunk_eq (off11_eq c t)).trans (dstM_nxt c true false t.val).symm)
     _ (chunk_eq (off12_eq c t)) _ ((chunk_eq (off12_eq c t)).trans (dstM_nxt c true true t.val).symm)) $$ H
  iintro ⟨#HR, HO, HA, HB⟩
  iapply (wp_land X κ c true false t.val h30 _ (by rw [← rcvS_mod, hp]; rfl) (by rfl) (above_ow2 true c t.val _ h30 (by omega))) $$ [HO HA]
  · isplitr; · iexact HR
    iframe
  iintro ⟨HO, HA⟩
  unfold WP; rw [wp_ret]; imodintro
  ihave HA := (land_ag X c false t.val h30) $$ HA
  iapply (wp_credit_then X κ c true false t.val h30 _ (cond11_iff t) _ (fun _ => Fin.ext (dev13_eq _)) _ (by rw [← crdS_mod, hp]; rfl) _ rfl (ow1 true c t.val) rfl) $$ [HO HA]
  · isplitr; · iexact HR
    isplitl [HO]; · iexact HO
    iexact HA
  iintro ⟨HO, HA⟩
  iapply (wp_land X κ c true true t.val h30 _ (by rw [← rcvS_mod, hp]; rfl) (by rfl) (above_ow1 true c t.val _ h30 (by omega))) $$ [HO HB]
  · isplitr; · iexact HR
    iframe
  iintro ⟨HO, HB⟩
  ihave HB := (land_ag X c true t.val h30) $$ HB
  iapply (wp_credit_then X κ c true true t.val h30 _ (cond12_iff t) _ (fun _ => Fin.ext ((dev14_eq _).trans (congrArg Fin.val (prv_not false c).symm))) _ (by rw [← crdS_mod, hp]; rfl) _ rfl (ow true c (t.val + 1)) rfl) $$ [HO HB]
  · isplitr; · iexact HR
    isplitl [HO]; · iexact HO
    iexact HB
  iintro ⟨HO, HB⟩
  iapply (wp_finish X κ c true t.val h30 _ _ (by rw [← sndS_mod, hp]; rfl) (by rw [← sndS_mod, hp]; rfl) (by rfl) (by rfl)) $$ [HO HA HB]
  · isplitr; · iexact HR
    iframe
  iintro H
  unfold WP; rw [wp_ret]; imodintro
  iexact H

set_option maxHeartbeats 2000000 in
/-- An odd trip of the all-gather. -/
theorem ag_odd (t : Fin k0_t2_loop.trips) (hp : t.val % 2 = 1) :
    inv X κ c true t.val ⊢ WP c (agBody c k0_hw3 k0_hw1 k0_hw2 t) (fun _ => inv X κ c true (t.val + 1)) := by
  have h30 : t.val ≤ 30 := by have h := t.isLt; have e := trips2; omega
  have hc := (cond13_iff t).mpr hp
  have hc' : ¬ k0_cond9 t = 1#1 := fun e => by have := (cond9_iff t).mp e; omega
  unfold agBody k0_t2_body
  simp only [dif_pos hc, dif_neg hc']
  simp only [k0_part6_eq_skeleton]; unfold k0_part6_skel
  simp only [semSignalWord, semWaitWord, Prog.lift, Prog.bind_op, Prog.bind_ret, Prog.pure_eq_ret, Prog.bind_assoc]
  unfold WP; rw [wp_bind]
  iintro H
  iapply (wp_start X κ c true t.val h30 _ (guard_iff ⟨t.val, by omega⟩) _ _ (by rw [← crdS_mod, hp]; rfl) (by rw [← crdS_mod, hp]; rfl) _ _ rfl rfl
     _ _ (Fin.ext (dev15_eq _)) (Fin.ext ((dev16_eq _).trans (congrArg Fin.val (by rw [← prv_not]; rfl))))
     _ _ _ _ (by rw [← sndS_mod, hp]; rfl) (by rw [← sndS_mod, hp]; rfl) (by rw [← rcvS_mod, hp]; rfl) (by rw [← rcvS_mod, hp]; rfl)
     _ (chunk_eq (off13_eq c t)) _ ((chunk_eq (off13_eq c t)).trans (dstM_nxt c true false t.val).symm)
     _ (chunk_eq (off14_eq c t)) _ ((chunk_eq (off14_eq c t)).trans (dstM_nxt c true true t.val).symm)) $$ H
  iintro ⟨#HR, HO, HA, HB⟩
  iapply (wp_land X κ c true false t.val h30 _ (by rw [← rcvS_mod, hp]; rfl) (by rfl) (above_ow2 true c t.val _ h30 (by omega))) $$ [HO HA]
  · isplitr; · iexact HR
    iframe
  iintro ⟨HO, HA⟩
  unfold WP; rw [wp_ret]; imodintro
  ihave HA := (land_ag X c false t.val h30) $$ HA
  iapply (wp_credit_then X κ c true false t.val h30 _ (cond15_iff t) _ (fun _ => Fin.ext (dev17_eq _)) _ (by rw [← crdS_mod, hp]; rfl) _ rfl (ow1 true c t.val) rfl) $$ [HO HA]
  · isplitr; · iexact HR
    isplitl [HO]; · iexact HO
    iexact HA
  iintro ⟨HO, HA⟩
  iapply (wp_land X κ c true true t.val h30 _ (by rw [← rcvS_mod, hp]; rfl) (by rfl) (above_ow1 true c t.val _ h30 (by omega))) $$ [HO HB]
  · isplitr; · iexact HR
    iframe
  iintro ⟨HO, HB⟩
  ihave HB := (land_ag X c true t.val h30) $$ HB
  iapply (wp_credit_then X κ c true true t.val h30 _ (cond16_iff t) _ (fun _ => Fin.ext ((dev18_eq _).trans (congrArg Fin.val (prv_not false c).symm))) _ (by rw [← crdS_mod, hp]; rfl) _ rfl (ow true c (t.val + 1)) rfl) $$ [HO HB]
  · isplitr; · iexact HR
    isplitl [HO]; · iexact HO
    iexact HB
  iintro ⟨HO, HB⟩
  iapply (wp_finish X κ c true t.val h30 _ _ (by rw [← sndS_mod, hp]; rfl) (by rw [← sndS_mod, hp]; rfl) (by rfl) (by rfl)) $$ [HO HA HB]
  · isplitr; · iexact HR
    iframe
  iintro H
  unfold WP; rw [wp_ret]; imodintro
  iexact H

/-- A trip of the all-gather. -/
theorem ag_trip (t : Fin k0_t2_loop.trips) :
    inv X κ c true t.val ⊢ WP c (agBody c k0_hw3 k0_hw1 k0_hw2 t) (fun _ => inv X κ c true (t.val + 1)) := by
  rcases Nat.mod_two_eq_zero_or_one t.val with hp | hp
  · exact ag_even X κ c k0_hw3 k0_hw1 k0_hw2 t hp
  · exact ag_odd X κ c k0_hw3 k0_hw1 k0_hw2 t hp

end Gather

end Cert.KProof

end
-- ==== Proof.Split.lean ====
/-
  The product's buffer split into the chunks of both halves and joined again;
  a receive buffer split into its two slots and joined again.
-/
module

public import proofs.«01_k».proof.Proof.Loops

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- Contents given on each rectangle of a disjoint family, as one function. -/
def glue {s : Shape} {T : Type} {β : Type} [Inhabited β] (r : T → Rect s) (v : (t : T) → (r t).shape.Idx → β) : s.Idx → β :=
  Function.extend (fun x : (t : T) × (r t).shape.Idx => (r x.1).emb x.2) (fun x => v x.1 x.2) (fun _ => default)

/-- The glued array reads back as the given one on each rectangle. -/
theorem glue_emb {s : Shape} {T : Type} {β : Type} [Inhabited β] (r : T → Rect s) (hd : ∀ t t', t ≠ t' → Disjoint (r t).set (r t').set)
    (v : (t : T) → (r t).shape.Idx → β) (t : T) (j : (r t).shape.Idx) : glue r v ((r t).emb j) = v t j := by
  have hi : Function.Injective (fun x : (t : T) × (r t).shape.Idx => (r x.1).emb x.2) := by
    rintro ⟨t, j⟩ ⟨t', j'⟩ h
    by_cases e : t = t'
    · subst e
      have h' : (r t).emb j = (r t).emb j' := h
      rw [(r t).emb.injective h']
    · exact absurd (Finset.mem_map_of_mem (r t').emb (Finset.mem_univ j'))
        (by
          rw [Rect.map_emb_univ]
          intro hm
          refine (Finset.disjoint_left.mp (hd t t' e)) ?_ hm
          rw [show (r t').emb j' = (r t).emb j from h.symm, ← Rect.map_emb_univ]
          exact Finset.mem_map_of_mem _ (Finset.mem_univ j))
  exact hi.extend_apply _ _ (⟨t, j⟩ : (t : T) × (r t).shape.Idx)

/-! ## The product's buffer -/

/-- Different chunks share no row. -/
theorem crect_disjoint (t t' : Bool × Fin 32) (h : t ≠ t') : Disjoint (crect t.1 t.2).set (crect t'.1 t'.2).set := by
  rw [Finset.disjoint_left]
  intro i hi hi'
  have h1 := (Rect.mem_set_unit.mp hi) 0
  have h2 := (Rect.mem_set_unit.mp hi') 0
  have e (d : Bool) (k : Fin 32) : crow d k 0 = (if d then 1024 else 0) + 32 * k.val := rfl
  rw [e] at h1 h2
  rw [show S32x2048.size 0 = 32 from rfl] at h1 h2
  obtain ⟨d, k⟩ := t
  obtain ⟨d', k'⟩ := t'
  have hk := k.isLt
  have hk' := k'.isLt
  apply h
  cases d <;> cases d' <;> simp only [Prod.mk.injEq, true_and, Fin.ext_iff, Bool.false_eq_true, if_true, if_false] at * <;> omega

/-- The 64 chunks are the whole result. -/
theorem crect_cover : (Finset.univ : Finset (Bool × Fin 32)).biUnion (fun t => (crect t.1 t.2).set) = Finset.univ := by
  ext i
  simp only [Finset.mem_biUnion, Finset.mem_univ, true_and, iff_true]
  have h0 : (i 0).val < 2048 := (i 0).isLt
  have h1 : (i 1).val < 2048 := (i 1).isLt
  refine ⟨(decide (1024 ≤ (i 0).val), ⟨(i 0).val % 1024 / 32, by omega⟩), Rect.mem_set_unit.mpr fun a => ?_⟩
  match a with
  | 0 =>
    show (if decide (1024 ≤ (i 0).val) = true then 1024 else 0) + 32 * ((i 0).val % 1024 / 32) ≤ (i 0).val
      ∧ (i 0).val < (if decide (1024 ≤ (i 0).val) = true then 1024 else 0) + 32 * ((i 0).val % 1024 / 32) + 32
    by_cases h : 1024 ≤ (i 0).val <;> simp only [h, decide_true, decide_false, if_true, if_false, Bool.false_eq_true] <;> omega
  | 1 => exact ⟨Nat.zero_le _, by show (i 1).val < 0 + 2048; omega⟩

variable (X : Dev nD → Vec F S2048x2048 .f32) (c : Dev nD)

/-- A float value to fall back on. -/
instance : Inhabited (Elt F .f32) := ⟨(FloatOps.ofBits .f32 0 : F .f32)⟩
/-- Every element type has a value. -/
theorem elt_nonempty (e : EltTy) : Nonempty (Elt F e) := by
  cases e <;> first | exact ⟨(0 : BitVec _)⟩ | exact ⟨(FloatOps.ofBits _ 0 : F _)⟩

/-- The result: every chunk finished. -/
def resV : Vec F S2048x2048 .f32 := glue (fun t : Bool × Fin 32 => crect t.1 t.2) fun t => fin X t.1 t.2

/-- The result's entries, chunk by chunk. -/
theorem resV_emb (d : Bool) (k : Fin 32) (j : (crect d k).shape.Idx) : resV X ((crect d k).emb j) = fin X d k j :=
  glue_emb (fun t : Bool × Fin 32 => crect t.1 t.2) crect_disjoint (fun t => fin X t.1 t.2) (d, k) j

/-- The result's chunks are the finished ones. -/
theorem resV_chunk (d : Bool) (k : Fin 32) : chunkV (resV X) d k = fin X d k := funext fun j => resV_emb X d k j

/-- The chunks of a half numbered by position are those numbered by the hop that sends them. -/
theorem half_eq (d : Bool) (Φ : Fin 32 → sProp 𝕄) :
    bigSep Finset.univ Φ = bigSep (Finset.range 32) fun j => Φ (ck d c j) := by
  rw [bigSep_univ_equiv (ckEquiv d c), ← show (Finset.univ : Finset (Fin 32)).map Fin.valEmbedding = Finset.range 32 from by decide, bigSep_map]
  rfl

/-- The product's buffer at `Y` is every chunk at its rows of `Y`. -/
theorem out_split (Y : Vec F S2048x2048 .f32) :
    owns (Ix := ℕ) (Name := ℕ) (U := UU) (Lvl := ℕ) (c : Thread nD τ) outM fullShare Y
      ⊢ iprop((bigSep (Finset.range 32) fun j => own c (chunkM false (ck false c j)) (chunkV Y false (ck false c j)))
        ∗ bigSep (Finset.range 32) fun j => own c (chunkM true (ck true c j)) (chunkV Y true (ck true c j))) := by
  refine (owns_rects (c : Thread nD τ) outM fullShare (fun t : Bool × Fin 32 => crect t.1 t.2) (fun _ _ => rfl) crect_disjoint crect_cover Y).trans ?_
  rw [bigSep_univ_prod, bigSep_out (Finset.mem_univ false), show (Finset.univ : Finset Bool).erase false = {true} from by decide, bigSep_singleton]
  exact Entails.of_eq (congrArg₂ (fun a b => iprop(a ∗ b))
    (half_eq c false fun k => own c (chunkM false k) (chunkV Y false k)) (half_eq c true fun k => own c (chunkM true k) (chunkV Y true k)))

/-- The 64 chunks of an array make the array. -/
theorem out_join (Y : Vec F S2048x2048 .f32) :
    iprop((bigSep (Finset.range 32) fun j => own c (chunkM false (ck false c j)) (chunkV Y false (ck false c j)))
        ∗ bigSep (Finset.range 32) fun j => own c (chunkM true (ck true c j)) (chunkV Y true (ck true c j)))
      ⊢ owns (Ix := ℕ) (Name := ℕ) (U := UU) (Lvl := ℕ) (c : Thread nD τ) outM fullShare Y := by
  haveI : ∀ e, Nonempty (Elt F e) := elt_nonempty
  refine BIBase.Entails.trans ?_ (owns_of_rects (c : Thread nD τ) outM fullShare (fun t : Bool × Fin 32 => crect t.1 t.2) (fun _ _ => rfl) crect_disjoint crect_cover Y)
  rw [bigSep_univ_prod, bigSep_out (Finset.mem_univ false), show (Finset.univ : Finset Bool).erase false = {true} from by decide, bigSep_singleton]
  exact Entails.of_eq (congrArg₂ (fun a b => iprop(a ∗ b))
    (half_eq c false fun k => own c (chunkM false k) (chunkV Y false k)) (half_eq c true fun k => own c (chunkM true k) (chunkV Y true k))).symm

/-- Before the reduce-scatter every chunk holds the product's rows, the first being its own partial sum. -/
theorem pcs_start : owns (Ix := ℕ) (Name := ℕ) (U := UU) (Lvl := ℕ) (c : Thread nD τ) outM fullShare (X c)
    ⊢ iprop(pcs X false c (st false 0) ∗ pcs X true c (st false 0)) := by
  have e (d : Bool) : (bigSep (Finset.range 32) fun j => own c (chunkM d (ck d c j)) (chunkV (X c) d (ck d c j))) = pcs X d c (st false 0) := by
    unfold pcs
    refine bigSep_congr fun j _ => ?_
    by_cases h : j = 0
    · subst h; rfl
    · rw [show st false 0 j = .raw by simp [st, h]]; rfl
  exact (out_split c (X c)).trans (Entails.of_eq (by rw [e, e]))

/-- After the all-gather every chunk is finished. -/
theorem pcs_end : iprop(pcs X false c (st true 31) ∗ pcs X true c (st true 31))
    ⊢ owns (Ix := ℕ) (Name := ℕ) (U := UU) (Lvl := ℕ) (c : Thread nD τ) outM fullShare (resV X) := by
  have e (d : Bool) : pcs X d c (st true 31) = bigSep (Finset.range 32) fun j => own c (chunkM d (ck d c j)) (chunkV (resV X) d (ck d c j)) := by
    unfold pcs
    refine bigSep_congr fun j hj => ?_
    rw [show st true 31 j = .fin by have := Finset.mem_range.mp hj; unfold st; grind, resV_chunk]; rfl
  rw [e, e]
  exact out_join c (resV X)

/-! ## A receive buffer -/

/-- The rectangle of a slot in the receive buffer. -/
abbrev srect (t : Fin 2) : Rect S2x32x2048 := Rect.unit (s := S2x32x2048) ![t.val % 2, 0, 0] S1x32x2048.size (slot_inb t.val)

/-- The two slots share nothing. -/
theorem srect_disjoint (t t' : Fin 2) (h : t ≠ t') : Disjoint (srect t).set (srect t').set := by
  rw [Finset.disjoint_left]
  intro i hi hi'
  have h1 := (Rect.mem_set_unit.mp hi) 0
  have h2 := (Rect.mem_set_unit.mp hi') 0
  have e (t : Fin 2) : (![t.val % 2, 0, 0] : Fin 3 → ℕ) 0 = t.val % 2 := rfl
  rw [e, show S1x32x2048.size 0 = 1 from rfl] at h1 h2
  apply h
  apply Fin.ext
  omega

/-- The two slots are the whole receive buffer. -/
theorem srect_cover : (Finset.univ : Finset (Fin 2)).biUnion (fun t => (srect t).set) = Finset.univ := by
  ext i
  simp only [Finset.mem_biUnion, Finset.mem_univ, true_and, iff_true]
  have h0 : (i 0).val < 2 := (i 0).isLt
  have h1 : (i 1).val < 32 := (i 1).isLt
  have h2 : (i 2).val < 2048 := (i 2).isLt
  refine ⟨⟨(i 0).val, h0⟩, Rect.mem_set_unit.mpr fun a => ?_⟩
  match a with
  | 0 =>
    show (i 0).val % 2 ≤ (i 0).val ∧ (i 0).val < (i 0).val % 2 + 1
    omega
  | 1 => exact ⟨Nat.zero_le _, by show (i 1).val < 0 + 32; omega⟩
  | 2 => exact ⟨Nat.zero_le _, by show (i 2).val < 0 + 2048; omega⟩

/-- A slot's rectangle owned is its elements of the receive buffer. -/
theorem own_srect (d : Bool) (t : Fin 2) (w : Vec F S1x32x2048 .f32) :
    owns (Ix := ℕ) (Name := ℕ) (U := UU) (Lvl := ℕ) (c : Thread nD τ) ((bufW d).slice (srect t) (fun _ => rfl)) fullShare w
      = (iprop(∃ f : Buf (Elt F) (((bufW d).access (srect t)).loc (c : Thread nD τ)),
        ⌜((bufW d).access (srect t)).read (Elt F) f = w⌝ ∗ (((bufW d).access (srect t)).loc (c : Thread nD τ) ↦[((bufW d).access (srect t)).set]{fullShare} f)) : sProp 𝕄) := rfl

/-- A slot as a part of the buffer is the slot a hop lands in. -/
theorem slot_of (d : Bool) (t : Fin 2) (w : Vec F S1x32x2048 .f32) :
    owns (Ix := ℕ) (Name := ℕ) (U := UU) (Lvl := ℕ) (c : Thread nD τ) ((bufW d).slice (srect t) (fun _ => rfl)) fullShare w ⊢ ownAny c (bufM d t.val) := by
  rw [own_srect]
  iintro ⟨%f, %hf, H⟩
  iexists (shapeCast S32x2048 (((bufW d).access (srect t)).read (Elt F) f : Vec F S1x32x2048 .f32) shapeCasts_S1x32x2048_S32x2048)
  iapply (Entails.of_eq (own_slot c d t.val (shapeCast S32x2048 (((bufW d).access (srect t)).read (Elt F) f : Vec F S1x32x2048 .f32) shapeCasts_S1x32x2048_S32x2048)).symm)
  iexists f
  isplitr; · ipureintro; rfl
  iexact H

/-- The slot a hop lands in is a slot as a part of the buffer. -/
theorem slot_to (d : Bool) (t : Fin 2) :
    ownAny c (bufM d t.val) ⊢ (iprop(∃ w : Vec F S1x32x2048 .f32,
      owns (Ix := ℕ) (Name := ℕ) (U := UU) (Lvl := ℕ) (c : Thread nD τ) ((bufW d).slice (srect t) (fun _ => rfl)) fullShare w) : sProp 𝕄) := by
  iintro ⟨%v, H⟩
  ihave H' := (Entails.of_eq (own_slot c d t.val v)) $$ H
  icases H' with ⟨%f, %hf, H⟩
  iexists (((bufW d).access (srect t)).read (Elt F) f : Vec F S1x32x2048 .f32)
  rw [own_srect]
  iexists f
  isplitr; · ipureintro; rfl
  iexact H

/-- A receive buffer is split into its two slots. -/
theorem buf_split (d : Bool) (w : Vec F S2x32x2048 .f32) :
    owns (Ix := ℕ) (Name := ℕ) (U := UU) (Lvl := ℕ) (c : Thread nD τ) (bufW d) fullShare w ⊢ iprop(ownAny c (bufM d 0) ∗ ownAny c (bufM d 1)) := by
  refine (owns_rects (c : Thread nD τ) (bufW d) fullShare srect (fun _ _ => rfl) srect_disjoint srect_cover w).trans ?_
  rw [bigSep_out (Finset.mem_univ (0 : Fin 2)), show (Finset.univ : Finset (Fin 2)).erase 0 = {1} from by decide, bigSep_singleton]
  exact BIClass.sep_mono (slot_of c d 0 _) (slot_of c d 1 _)

/-- The two slots make the receive buffer. -/
theorem buf_join (d : Bool) :
    iprop(ownAny c (bufM d 29) ∗ ownAny c (bufM d 30))
      ⊢ (iprop(∃ w : Vec F S2x32x2048 .f32, owns (Ix := ℕ) (Name := ℕ) (U := UU) (Lvl := ℕ) (c : Thread nD τ) (bufW d) fullShare w) : sProp 𝕄) := by
  haveI : ∀ e, Nonempty (Elt F e) := elt_nonempty
  rw [show bufM d 29 = bufM d (1 : Fin 2).val from rfl, show bufM d 30 = bufM d (0 : Fin 2).val from rfl]
  iintro ⟨H1, H0⟩
  ihave H1' := (slot_to c d 1) $$ H1
  ihave H0' := (slot_to c d 0) $$ H0
  icases H1' with ⟨%w1, H1⟩
  icases H0' with ⟨%w0, H0⟩
  iexists glue srect (fun t => if t = 0 then w0 else w1)
  iapply (owns_of_rects (c : Thread nD τ) (bufW d) fullShare srect (fun _ _ => rfl) srect_disjoint srect_cover (glue srect (fun t => if t = 0 then w0 else w1)))
  rw [bigSep_out (Finset.mem_univ (0 : Fin 2)), show (Finset.univ : Finset (Fin 2)).erase 0 = {1} from by decide, bigSep_singleton,
    show (fun j => glue srect (fun t => if t = 0 then w0 else w1) ((srect 0).emb j)) = w0 from funext fun j => by
      rw [glue_emb srect srect_disjoint (fun t => if t = 0 then w0 else w1) 0 j]; rfl,
    show (fun j => glue srect (fun t => if t = 0 then w0 else w1) ((srect 1).emb j)) = w1 from funext fun j => by
      rw [glue_emb srect srect_disjoint (fun t => if t = 0 then w0 else w1) 1 j]; rfl]
  isplitl [H0]; · iexact H0
  iexact H1

end Cert.KProof

end
-- ==== Proof.Body.lean ====
/-
  The kernel's body on one device: the barrier, the local product, the
  reduce-scatter, the activation of the chunk each direction completes here, the
  all-gather, and the closing of every semaphore.
-/
module

public import proofs.«01_k».proof.Proof.Split

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Dev nD → Vec F S2048x2048 .f32) (κ : GSem nD τ sig → ℕ) (c : Dev nD)

/-! ## The cells at the start and at the end -/

/-- The core's places in one direction's cells of one phase, at the start. -/
def cells0 (ph d : Bool) : sProp 𝕄 :=
  iprop(at_ (sndC ph d 0 c) 0 ∗ at_ (sndC ph d 1 c) 0 ∗ at_ (rcvC ph d 0 c) 0 ∗ at_ (rcvC ph d 1 c) 0 ∗ at_ (crdC ph d 0 c) 0 ∗ at_ (crdC ph d 1 c) 0)
/-- Its places in them after the last hop. -/
def cellsN (ph d : Bool) : sProp 𝕄 :=
  iprop(at_ (sndC ph d 31 c) 15 ∗ at_ (sndC ph d 32 c) 16 ∗ at_ (rcvC ph d 31 c) 15 ∗ at_ (rcvC ph d 32 c) 16 ∗ at_ (crdC ph d 31 c) 14 ∗ at_ (crdC ph d 32 c) 15)
/-- Their counters at zero. -/
def zeros (ph d : Bool) : sProp 𝕄 :=
  iprop(semVal (sndC ph d 0 c) 0 ∗ semVal (sndC ph d 1 c) 0 ∗ semVal (rcvC ph d 0 c) 0 ∗ semVal (rcvC ph d 1 c) 0 ∗ semVal (crdC ph d 0 c) 0 ∗ semVal (crdC ph d 1 c) 0)

/-- A cell whose duties are over closes at zero. -/
theorem close_cell (g : GSem nD τ sig) (hg : g ∈ cells) (R : ℕ) (hl : ∀ r, R ≤ r → (sched X).duties g r = ∅) :
    iprop(recs X κ c ∗ at_ g R) ⊢ (iprop(|={Set.univ}=> semVal g 0) : sProp 𝕄) := by
  unfold at_
  iintro ⟨#HR, Hat, -⟩
  ihave #HI := (recs_inv X κ c hg) $$ HR
  iapply (Rounds.cell_close ER (sched X) (Set.mem_univ (κ g)) (fun h => h) (R := R) hl)
  isplitr; · iexact HI
  iexact Hat

/-- After its last hop a send cell has no duty left. -/
theorem over_snd (ph d : Bool) (h R : ℕ) (hR : 30 < 2 * R + h % 2) (r : ℕ) (hr : R ≤ r) : (sched X).duties (sndC ph d h c) r = ∅ := by
  dsimp only [sched]; rw [if_pos rfl, role_snd]; exact if_neg (by omega : ¬ 2 * r + h % 2 ≤ 30)
/-- After its last hop a receive cell has no duty left. -/
theorem over_rcv (ph d : Bool) (h R : ℕ) (hR : 30 < 2 * R + h % 2) (r : ℕ) (hr : R ≤ r) : (sched X).duties (rcvC ph d h c) r = ∅ := by
  dsimp only [sched]; rw [if_pos rfl, role_rcv]; exact if_neg (by omega : ¬ 2 * r + h % 2 ≤ 30)
/-- After the last credited hop a credit cell has no duty left. -/
theorem over_crd (ph d : Bool) (h R : ℕ) (hR : 28 < 2 * R + h % 2) (r : ℕ) (hr : R ≤ r) : (sched X).duties (crdC ph d h c) r = ∅ := by
  dsimp only [sched]; rw [if_pos rfl, role_crd]; exact if_neg (by omega : ¬ 2 * r + h % 2 ≤ 28)
/-- The barrier's cell has duties in its first round only. -/
theorem over_bar (r : ℕ) (hr : 1 ≤ r) : (sched X).duties (barC c) r = ∅ := by
  dsimp only [sched]; rw [if_pos rfl, role_bar]; exact if_neg (by omega : ¬ r = 0)

/-- One direction's cells of one phase close. -/
theorem close_dir (ph d : Bool) : iprop(recs X κ c ∗ cellsN c ph d) ⊢ (iprop(|={Set.univ}=> zeros c ph d) : sProp 𝕄) := by
  unfold cellsN zeros
  iintro ⟨#HR, H1, H0, H3, H2, H5, H4⟩
  imod (close_cell X κ c _ (snd_mem ph d 31 c) 15 (over_snd X c ph d 31 15 (by decide))) $$ [H1] with H1
  · isplitr; · iexact HR
    iexact H1
  imod (close_cell X κ c _ (snd_mem ph d 32 c) 16 (over_snd X c ph d 32 16 (by decide))) $$ [H0] with H0
  · isplitr; · iexact HR
    iexact H0
  imod (close_cell X κ c _ (rcv_mem ph d 31 c) 15 (over_rcv X c ph d 31 15 (by decide))) $$ [H3] with H3
  · isplitr; · iexact HR
    iexact H3
  imod (close_cell X κ c _ (rcv_mem ph d 32 c) 16 (over_rcv X c ph d 32 16 (by decide))) $$ [H2] with H2
  · isplitr; · iexact HR
    iexact H2
  imod (close_cell X κ c _ (crd_mem ph d 31 c) 14 (over_crd X c ph d 31 14 (by decide))) $$ [H5] with H5
  · isplitr; · iexact HR
    iexact H5
  imod (close_cell X κ c _ (crd_mem ph d 32 c) 15 (over_crd X c ph d 32 15 (by decide))) $$ [H4] with H4
  · isplitr; · iexact HR
    iexact H4
  imodintro
  isplitl [H0]; · iexact H0
  isplitl [H1]; · iexact H1
  isplitl [H2]; · iexact H2
  isplitl [H3]; · iexact H3
  isplitl [H4]; · iexact H4
  iexact H5

/-! ## The states between the phases -/

/-- The reduce-scatter can start: the product in place, the neighbours' rooms in hand. -/
theorem H0_start (d : Bool) : iprop(pcs X d c (st false 0) ∗ toks false d c 0 ∗ rooms false d c 0 ∗ cells0 c false d) ⊢ H0 X false d c 0 := by
  unfold H0 cells0
  rw [show bufs (F := F) false d c 0 = iprop(emp) from by unfold bufs; rw [if_neg (by decide), if_neg (by decide)]]
  iintro ⟨Hp, Ht, Hr, H0, H1, H2, H3, H4, H5⟩
  isplitl [Hp]; · iexact Hp
  isplitr; · iempintro
  isplitl [Ht]; · iexact Ht
  isplitl [Hr]; · iexact Hr
  isplitl [H0]; · iexact H0
  isplitl [H1]; · iexact H1
  isplitl [H2]; · iexact H2
  isplitl [H3]; · iexact H3
  isplitl [H4]; · iexact H4
  iexact H5

/-- What the reduce-scatter leaves. -/
theorem H0_mid (d : Bool) : H0 X false d c 31
    ⊢ iprop(pcs X d c (st false 31) ∗ (ownAny c (bufM d 29) ∗ ownAny c (bufM d 30)) ∗ rooms true d c 0 ∗ cellsN c false d) := by
  unfold H0 cellsN
  rw [show bufs (F := F) false d c 31 = iprop(ownAny (F := F) c (bufM d 29) ∗ ownAny c (bufM d 30)) from by unfold bufs; rw [if_pos (Or.inr rfl)],
    show rooms (F := F) false d c 31 = rooms true d c 0 from by unfold rooms; rw [if_neg (by decide), if_neg (by decide), if_pos (by decide), if_pos rfl]]
  iintro ⟨Hp, Hb, -, Hr, Hc⟩
  isplitl [Hp]; · iexact Hp
  isplitl [Hb]; · iexact Hb
  isplitl [Hr]; · iexact Hr
  iexact Hc

/-- The all-gather can start. -/
theorem H0_turn (d : Bool) : iprop(pcs X d c (st true 0) ∗ (ownAny c (bufM d 29) ∗ ownAny c (bufM d 30)) ∗ toks true d c 0 ∗ rooms true d c 0 ∗ cells0 c true d)
    ⊢ H0 X true d c 0 := by
  unfold H0 cells0
  rw [show bufs (F := F) true d c 0 = iprop(ownAny (F := F) c (bufM d 29) ∗ ownAny c (bufM d 30)) from by unfold bufs; rw [if_pos (Or.inl rfl)]]

/-- What the all-gather leaves. -/
theorem H0_end (d : Bool) : H0 X true d c 31
    ⊢ iprop(pcs X d c (st true 31) ∗ (ownAny c (bufM d 29) ∗ ownAny c (bufM d 30)) ∗ cellsN c true d) := by
  unfold H0 cellsN
  rw [show bufs (F := F) true d c 31 = iprop(ownAny (F := F) c (bufM d 29) ∗ ownAny c (bufM d 30)) from by unfold bufs; rw [if_pos (Or.inl rfl)]]
  iintro ⟨Hp, Hb, -, -, Hc⟩
  isplitl [Hp]; · iexact Hp
  isplitl [Hb]; · iexact Hb
  iexact Hc

/-- The activation of the chunk a direction completes on this device. -/
theorem wp_act (d : Bool) (off : Fin 2 → ℕ) (hoff : off = crow d (ck d c 31)) (pay : Vec F S32x2048 .f32 → Vec F S32x2048 .f32) (hpay : pay = k0_pay1)
    {inb : ∀ a, off a + S32x2048.size a ≤ S2048x2048.size a} {hl hl' : outM.view.LoadsAt (Rect.unit (s := S2048x2048) off S32x2048.size inb).toLoadRect}
    {hx : (outM.access (Rect.unit (s := S2048x2048) off S32x2048.size inb)).Stores Finset.univ}
    {hm : (Finset.univ : Finset (Rect.unit (s := S2048x2048) off S32x2048.size inb).shape.Idx) = Finset.univ ∨ ∀ a, (Rect.unit (s := S2048x2048) off S32x2048.size inb).stride a = 1}
    {α : Type} {Q : α → sProp 𝕄} {K : Pgm (F := F) α} :
    pcs X d c (st false 31) ⊢ iprop((pcs X d c (st true 0) -∗ WP c K Q)
      -∗ WP c (.op (.load outM (Rect.unit (s := S2048x2048) off S32x2048.size inb).toLoadRect hl) fun v =>
        .op (.load outM (Rect.unit (s := S2048x2048) off S32x2048.size inb).toLoadRect hl') fun _ =>
        .op (.store outM (Rect.unit (s := S2048x2048) off S32x2048.size inb) (pay v) Finset.univ hx hm) fun _ => K) Q) := by
  subst hpay
  iintro Hp Hk
  ihave Hp' := (pcs_take X d c (g := fun j => if j = 31 then .gone else st false 31 j) (i := 31) (by decide) (fun j _ => rfl)) $$ Hp
  icases Hp' with ⟨Hc, Hp⟩
  ihave Hc' := (Entails.of_eq (show pc X d c 31 (st false 31 31) = own c (chunkM d (ck d c 31)) (acc X d 31 c) from rfl)) $$ Hc
  iapply (wp_load_chunk c d (ck d c 31) (acc X d 31 c) off hoff) $$ Hc'
  iintro Hc
  iapply (wp_load_chunk c d (ck d c 31) (acc X d 31 c) off hoff) $$ Hc
  iintro Hc
  iapply (wp_store_chunk c d (ck d c 31) (acc X d 31 c) (k0_pay1 (acc X d 31 c)) off hoff) $$ Hc
  iintro Hc
  iapply Hk
  iapply (pcs_put X d c (f := fun j => if j = 31 then .gone else st false 31 j) (g := st true 0) (i := 31) .fin (by decide) rfl
    (fun j hj => by simp only [st]; grind))
  isplitl [Hc]
  · rw [show pc X d c 31 .fin = own c (chunkM d (ck d c 31)) (k0_pay1 (acc X d 31 c)) from by unfold pc fin; dsimp only; rw [owner_ck]]
    iexact Hc
  iexact Hp

/-! ## The barrier -/

/-- What the device's barrier signal on side `d` hands over: the two slots of the receive buffer of direction `d`. -/
theorem bar_pay (d : Bool) : iprop((ownAny c (bufM d 0) ∗ ownAny c (bufM d 1)) ∗ reached ER (rcvC false d 0 c) 0 ∗ reached ER (rcvC false d 1 c) 0)
    ⊢ barPay (F := F) d (prv d c) := by
  unfold barPay room
  rw [nxt_prv]
  iintro ⟨⟨H0, H1⟩, Hr0, Hr1⟩
  isplitl [H0 Hr0]
  · isplitl [H0]; · iexact H0
    iexact Hr0
  isplitl [H1]; · iexact H1
  iexact Hr1

/-- What the barrier's wait collects: the room of the first two hops, in both directions. -/
theorem rest_bar : bigSep ((sched X).duties (barC c) 0 \ ∅) (fun dd => (sched X).payload (barC c) 0 dd)
    = iprop(rooms (F := F) false false c 0 ∗ rooms false true c 0) := by
  rw [Finset.sdiff_empty, duties_bar, bigSep_univ_eq_bigSepL [false, true] (by decide) (by decide), bigSepL_cons_cons, bigSepL_singleton,
    payload_bar, payload_bar]
  rfl

/-- A barrier signal to the neighbour before the device in direction `d`. -/
theorem wp_bar_signal (d : Bool) (n : Dev nD) (hn : n = prv d c) (q : Sem sig) (hq : q = barS) (k' : ℕ) (hk : k' = 1)
    {O₀ : CellTallies nD τ sig ℕ} (O : CellTallies nD τ sig ℕ) (hO : O₀ = O + tallyAt (barC (prv d c)) 0 1)
    {α : Type} {Q : α → sProp 𝕄} {kk : PUnit → Pgm (F := F) α} :
    iprop(recs X κ c ∗ owesE c O₀ ∗ dutyTok ER (barC (prv d c)) 0 d ∗ (ownAny c (bufM d 0) ∗ ownAny c (bufM d 1))
        ∗ reached ER (rcvC false d 0 c) 0 ∗ reached ER (rcvC false d 1 c) 0)
      ⊢ iprop((owesE c O -∗ WP c (kk ⟨⟩) Q) -∗ WP c (.op (.semSignal (Dev.tc n : Thread nD τ) q k') kk) Q) := by
  subst hn hq hk
  unfold owesE
  iintro ⟨#HR, ⟨%W, HO⟩, Ht, Hb, Hr⟩ Hk
  iapply (Rounds.wp_signal 𝒱₀ ER (sched X) (c : Thread nD τ) none (dst := (prv d c : Thread nD τ)) (κ := κ (barC (prv d c)))
      (d := d) (by rw [duties_bar]; exact Finset.mem_univ _) (amount_bar X (prv d c) 0 d) 0 O hO) $$ [HO Ht Hb Hr]
  · isplitr; · iapply (recs_inv X κ c (bar_mem (prv d c))); iexact HR
    isplitl [HO]; · iexact HO
    isplitl [Ht]; · iexact Ht
    isplitl [Hb Hr]
    · rw [payload_bar]; iapply (bar_pay c d); isplitl [Hb] <;> iassumption
    iapply (recs_bar X κ c (prv d c)); iexact HR
  iintro HO
  iapply Hk
  iexists W; iexact HO

/-- The barrier's wait: both neighbours' receive buffers are free to write. -/
theorem wp_bar_wait (q : Sem sig) (hq : q = barS) (n : ℕ) (hn : n = 2) {O : CellTallies nD τ sig ℕ} (hO : Above O 1)
    {α : Type} {Q : α → sProp 𝕄} {kk : PUnit → Pgm (F := F) α} :
    iprop(recs X κ c ∗ owesE c O ∗ cred (tallyAt (barC c) 0 2) ∗ at_ (barC c) 0)
      ⊢ iprop(((owesE c O ∗ at_ (barC c) 1 ∗ rooms false false c 0 ∗ rooms false true c 0) -∗ WP c (kk ⟨⟩) Q)
        -∗ WP c (.op (.semWait q n) kk) Q) := by
  subst hq hn
  unfold owesE at_
  iintro ⟨#HR, ⟨%W, HO⟩, Hc, Hat, -⟩ Hk
  iapply (Rounds.wp_wait_rest_token 𝒱₀ ER (sched X) (c : Thread nD τ) none (κ := κ (barC c))
      (wpE_semWait_eq 𝒱₀ (c : Thread nD τ) none Set.univ) (Set.mem_univ _) 0 (O := O) (W := W) (R := 0) (m := 0) (T := ∅)
      (by rw [expect_bar])) $$ [Hc HO Hat]
  · isplitr; · iapply (recs_inv X κ c (bar_mem c)); iexact HR
    isplitl [Hc]; · iexact Hc
    isplitl [HO]; · iexact HO
    isplitr
    · iapply (mayWait c (.reg barS) 0 (by decide) hO (by rw [show lv ((c : Thread nD τ), .reg barS) 0 = 1 from lv_bar c 0])); iapply (recs_lev X κ c); iexact HR
    iexact Hat
  iintro ⟨HO, Hat, Hre, Hpay⟩
  ihave Hp2 := (Entails.of_eq (rest_bar X c)) $$ Hpay
  iapply Hk
  isplitl [HO]; · iexists _; iexact HO
  isplitl [Hat Hre]
  · isplitl [Hat]; · iexact Hat
    iexact Hre
  iexact Hp2

/-! ## The body -/

/-- The ring word, the left neighbour and the right neighbour, as the device's table holds them. -/
def qlrV : Vec F S3 .i32 := fun i => (![qw c, dw (prv false c), dw (nxt false c)] : Fin 3 → BitVec 32) (i 0)

/-- The words of the table, one by one. -/
theorem qlr_at (k : ℕ) (hk : k < 3) {h : ∀ a, (![k] : Fin 1 → ℕ) a + S1.size a ≤ S3.size a} {x : (Rect.unit (s := S3) ![k] S1.size h).shape.Idx} :
    ((Memref.whole cc0_stg2_0 : Memref sig .tc .smem S3 .i32).access (Rect.unit (s := S3) ![k] S1.size h)).read (Elt F) (qlrV (F := F) c) x
      = (![qw c, dw (prv false c), dw (nxt false c)] : Fin 3 → BitVec 32) ⟨k, hk⟩ := by
  have hx : (x 0).val < 1 := (x 0).isLt
  have e : ((Rect.unit (s := S3) ![k] S1.size h).emb x 0 : Fin 3) = ⟨k, hk⟩ := Fin.ext (by
    show k + 1 * (x 0).val = k
    omega)
  exact congrArg (![qw c, dw (prv false c), dw (nxt false c)] : Fin 3 → BitVec 32) e

/-- The offset of the whole buffer. -/
theorem off_zero : (![0, 0] : Fin 2 → ℕ) = fun _ => 0 := funext fun a => by fin_cases a <;> rfl

/-- The load of the first operand gives the whole of it. -/
theorem read_a (a : Vec F S2048x1024 .f32) : (Memref.whole cc0_stg0_0 : Memref sig .tc .vmem S2048x1024 .f32).view.readAt (Elt F)
    (Rect.unit (s := S2048x1024) ![0, 0] S2048x1024.size inb_S2048x1024_S2048x1024_0_0).toLoadRect a = a := Memref.readAt_unit_zero (Elt F) cc0_stg0_0 off_zero _ _
/-- The load of the second operand gives the whole of it. -/
theorem read_b (b : Vec F S1024x2048 .f32) : (Memref.whole cc0_stg1_0 : Memref sig .tc .vmem S1024x2048 .f32).view.readAt (Elt F)
    (Rect.unit (s := S1024x2048) ![0, 0] S1024x2048.size inb_S1024x2048_S1024x2048_0_0).toLoadRect b = b := Memref.readAt_unit_zero (Elt F) cc0_stg1_0 off_zero _ _
/-- The store of the product replaces the whole of the result's buffer. -/
theorem write_o (o w : Vec F S2048x2048 .f32) : (outM.access (Rect.unit (s := S2048x2048) ![0, 0] S2048x2048.size inb_S2048x2048_S2048x2048_0_0)).write (Elt F) o w Finset.univ = w :=
  Memref.write_access_unit_zero_univ (Elt F) cc0_stg3_0 off_zero _ o w

/-- The product stored is the product's buffer at the device's product. -/
theorem product_stored (a : Vec F S2048x1024 .f32) (b : Vec F S1024x2048 .f32) (o : Vec F S2048x2048 .f32) (hX : k0_pay7 a b = X c) :
    ((outM.access (Rect.unit (s := S2048x2048) ![0, 0] S2048x2048.size inb_S2048x2048_S2048x2048_0_0)).loc (c : Thread nD τ) ↦{fullShare}
      (outM.access (Rect.unit (s := S2048x2048) ![0, 0] S2048x2048.size inb_S2048x2048_S2048x2048_0_0)).write (Elt F) o
        (k0_pay7
          ((Memref.whole cc0_stg0_0 : Memref sig .tc .vmem S2048x1024 .f32).view.readAt (Elt F)
            (Rect.unit (s := S2048x1024) ![0, 0] S2048x1024.size inb_S2048x1024_S2048x1024_0_0).toLoadRect a)
          ((Memref.whole cc0_stg1_0 : Memref sig .tc .vmem S1024x2048 .f32).view.readAt (Elt F)
            (Rect.unit (s := S1024x2048) ![0, 0] S1024x2048.size inb_S1024x2048_S1024x2048_0_0).toLoadRect b)) Finset.univ)
      ⊢ (iprop(pcs X false c (st false 0) ∗ pcs X true c (st false 0)) : sProp 𝕄) := by
  rw [write_o, read_a, read_b, hX]
  refine BIBase.Entails.trans ?_ (pcs_start X c)
  rw [owns_whole]

/-- The shared part of a device's start: the records, its due, its rights and its places. -/
def kit : sProp 𝕄 :=
  iprop(recs X κ c ∗ owesE c (O₀ c) ∗ (dutyTok ER (barC (prv false c)) 0 false ∗ dutyTok ER (barC (prv true c)) 0 true) ∗ cred (tallyAt (barC c) 0 2)
    ∗ at_ (barC c) 0 ∗ (toks false false c 0 ∗ toks false true c 0 ∗ toks true false c 0 ∗ toks true true c 0)
    ∗ cells0 c false false ∗ cells0 c false true ∗ cells0 c true false ∗ cells0 c true true)

/-- A receive buffer whole, at any contents. -/
def bufAny (d : Bool) : sProp 𝕄 := iprop(∃ w : Vec F S2x32x2048 .f32, owns (Ix := ℕ) (Name := ℕ) (U := UU) (Lvl := ℕ) (c : Thread nD τ) (bufW d) fullShare w)

/-- What the body leaves besides the staged operands and the result. -/
def done : sProp 𝕄 :=
  iprop(owesE c 0 ∗ semVal (barC c) 0 ∗ (zeros c false false ∗ zeros c false true ∗ zeros c true false ∗ zeros c true true) ∗ bufAny c false ∗ bufAny c true)

/-- The kernel's body, at the buffers and semaphores of the call. -/
abbrev theBody : Pgm (F := F) PUnit :=
  cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7 cc0_scratch8 cc0_scratch9 cc0_scratch10 cc0_scratch11 cc0_scratch12 cc0_scratch13

/-- The reduce-scatter's loop. -/
theorem wp_rs (h3 : k0_chk3 (qw c)) (h1 : k0_chk1 (dw (prv false c))) (h2 : k0_chk2 (dw (nxt false c))) {α : Type} {K : Unit → Pgm (F := F) α} {Q : α → sProp 𝕄} :
    inv X κ c false 0 ⊢ iprop((inv X κ c false 31 -∗ WP c (K ()) Q)
      -∗ WP c (Scf.for k0_t1_loop.lb k0_t1_loop.ub k0_t1_loop.st k0_t1_ok () (fun t _ => rsBody c h3 h1 h2 t) >>= K) Q) := by
  iintro HI Hk
  iapply (Scf.wp_for_bind frame (wpE (defs₀ (F := F)) 𝒱₀ (c : Thread nD τ) none) Set.univ k0_t1_loop.lb k0_t1_loop.ub k0_t1_loop.st k0_t1_ok ()
    (fun t _ => rsBody c h3 h1 h2 t) (fun k _ => inv X κ c false k) (fun t _ => rs_trip X κ c h3 h1 h2 t)) $$ HI
  iintro %u HI
  ihave HI' := (Entails.of_eq (congrArg (inv X κ c false) trips1)) $$ HI
  iapply Hk $$ HI'

/-- The all-gather's loop. -/
theorem wp_ag (h3 : k0_chk3 (qw c)) (h1 : k0_chk1 (dw (prv false c))) (h2 : k0_chk2 (dw (nxt false c))) {α : Type} {K : Unit → Pgm (F := F) α} {Q : α → sProp 𝕄} :
    inv X κ c true 0 ⊢ iprop((inv X κ c true 31 -∗ WP c (K ()) Q)
      -∗ WP c (Scf.for k0_t2_loop.lb k0_t2_loop.ub k0_t2_loop.st k0_t2_ok () (fun t _ => agBody c h3 h1 h2 t) >>= K) Q) := by
  iintro HI Hk
  iapply (Scf.wp_for_bind frame (wpE (defs₀ (F := F)) 𝒱₀ (c : Thread nD τ) none) Set.univ k0_t2_loop.lb k0_t2_loop.ub k0_t2_loop.st k0_t2_ok ()
    (fun t _ => agBody c h3 h1 h2 t) (fun k _ => inv X κ c true k) (fun t _ => ag_trip X κ c h3 h1 h2 t)) $$ HI
  iintro %u HI
  ihave HI' := (Entails.of_eq (congrArg (inv X κ c true) trips2)) $$ HI
  iapply Hk $$ HI'

/-- A word of the table read. -/
theorem wp_word (k : ℕ) (hk : k < 3) {h : ∀ a, (![k] : Fin 1 → ℕ) a + S1.size a ≤ S3.size a}
    {hl : (Memref.whole cc0_stg2_0 : Memref sig .tc .smem S3 .i32).view.LoadsAt (Rect.unit (s := S3) ![k] S1.size h).toLoadRect}
    {α : Type} {Q : α → sProp 𝕄} {kk : ((Rect.unit (s := S3) ![k] S1.size h).shape.Idx → Elt F .i32) → Pgm (F := F) α} :
    ((c : Thread nD τ).loc cc0_stg2_0 ↦{fullShare} (qlrV c : Vec F S3 .i32))
      ⊢ iprop((∀ v : (Rect.unit (s := S3) ![k] S1.size h).shape.Idx → Elt F .i32, ⌜∀ y, v y = (![qw c, dw (prv false c), dw (nxt false c)] : Fin 3 → BitVec 32) ⟨k, hk⟩⌝
          -∗ ((c : Thread nD τ).loc cc0_stg2_0 ↦{fullShare} (qlrV c : Vec F S3 .i32)) -∗ WP c (kk v) Q)
        -∗ WP c (.op (.load (Memref.whole cc0_stg2_0 : Memref sig .tc .smem S3 .i32) (Rect.unit (s := S3) ![k] S1.size h).toLoadRect hl) kk) Q) := by
  iintro Hq Hk
  iapply (wp_load_rect 𝒱₀ (c : Thread nD τ) none Set.univ (m := (Memref.whole cc0_stg2_0 : Memref sig .tc .smem S3 .i32))
    (r := Rect.unit (s := S3) ![k] S1.size h) (hl := hl) (k := kk) (S := Finset.univ) (f := (qlrV c : Vec F S3 .i32)) (Finset.subset_univ _)) $$ Hq
  iintro Hq
  iapply Hk
  · ipureintro; exact fun y => qlr_at c k hk
  iexact Hq

set_option maxHeartbeats 4000000 in
/-- The body, from a device's start to the result in its staging buffer. -/
theorem body_run (a : Vec F S2048x1024 .f32) (b : Vec F S1024x2048 .f32) (o : Vec F S2048x2048 .f32) (hX : k0_pay7 a b = X c) {Q : PUnit → sProp 𝕄} :
    iprop(kit X κ c ∗ bufAny c false ∗ bufAny c true
        ∗ ((c : Thread nD τ).loc cc0_stg0_0 ↦{fullShare} a) ∗ ((c : Thread nD τ).loc cc0_stg1_0 ↦{fullShare} b)
        ∗ ((c : Thread nD τ).loc cc0_stg2_0 ↦{fullShare} (qlrV c : Vec F S3 .i32)) ∗ ((c : Thread nD τ).loc cc0_stg3_0 ↦{fullShare} o))
      ⊢ iprop(((done c ∗ ((c : Thread nD τ).loc cc0_stg0_0 ↦{fullShare} a) ∗ ((c : Thread nD τ).loc cc0_stg1_0 ↦{fullShare} b)
          ∗ ((c : Thread nD τ).loc cc0_stg2_0 ↦{fullShare} (qlrV c : Vec F S3 .i32)) ∗ ((c : Thread nD τ).loc cc0_stg3_0 ↦{fullShare} resV X)) -∗ Q ⟨⟩)
        -∗ WP c theBody Q) := by
  unfold theBody
  simp only [cc0_body_eq_skeleton]; unfold cc0_body_skel
  simp only [k0_part7_eq_skeleton]; unfold k0_part7_skel
  simp only [semSignalWord, semWaitWord, smemLoad, smemLoadElt, Prog.lift, Prog.bind_op, Prog.bind_ret, Prog.pure_eq_ret, Prog.bind_assoc]
  iintro ⟨HK, HBf, HBt, Ha, Hb, Hq, Ho⟩ Hk
  unfold kit
  icases HK with ⟨#HR, HO, ⟨HtL, HtR⟩, Hcr, Hbar, ⟨T00, T01, T10, T11⟩, C00, C01, C10, C11⟩
  -- the table's three words
  iapply (wp_word c 0 (by decide)) $$ Hq
  iintro %v %hv Hq
  generalize hw : v (Shape.Idx.first _) = w
  obtain rfl : w = qw c := hw.symm.trans (hv _)
  iapply (wp_assume 𝒱₀ (c : Thread nD τ) none Set.univ (chk3_q c))
  iapply (wp_word c 1 (by decide)) $$ Hq
  iintro %v' %hv' Hq
  generalize hw' : v' (Shape.Idx.first _) = w
  obtain rfl : w = dw (prv false c) := hw'.symm.trans (hv' _)
  iapply (wp_assume 𝒱₀ (c : Thread nD τ) none Set.univ (chk1_d (prv false c)))
  iapply (wp_word c 2 (by decide)) $$ Hq
  iintro %v'' %hv'' Hq
  generalize hw'' : v'' (Shape.Idx.first _) = w
  obtain rfl : w = dw (nxt false c) := hw''.symm.trans (hv'' _)
  iapply (wp_assume 𝒱₀ (c : Thread nD τ) none Set.univ (chk2_d (nxt false c)))
  -- the receive buffers' slots, for the neighbours
  unfold bufAny
  icases HBf with ⟨%bf, HBf⟩
  icases HBt with ⟨%bt, HBt⟩
  ihave HBf := (buf_split c false bf) $$ HBf
  ihave HBt := (buf_split c true bt) $$ HBt
  unfold cells0 at_
  icases C00 with ⟨C00a, C00b, ⟨C00c, #R00⟩, ⟨C00d, #R01⟩, C00e⟩
  icases C01 with ⟨C01a, C01b, ⟨C01c, #R10⟩, ⟨C01d, #R11⟩, C01e⟩
  -- the barrier
  iapply (wp_bar_signal X κ c false _ (Fin.ext (dev1_eq (prv false c))) _ rfl _ (by decide) (owB c) rfl) $$ [HO HtL HBf]
  · isplitr; · iexact HR
    isplitl [HO]; · iexact HO
    isplitl [HtL]; · iexact HtL
    isplitl [HBf]; · iexact HBf
    isplitr; · iexact R00
    iexact R01
  iintro HO
  iapply (wp_bar_signal X κ c true _ ((Fin.ext (dev2_eq (nxt false c))).trans (prv_not false c).symm) _ rfl _ (by decide) (ow false c 0) rfl) $$ [HO HtR HBt]
  · isplitr; · iexact HR
    isplitl [HO]; · iexact HO
    isplitl [HtR]; · iexact HtR
    isplitl [HBt]; · iexact HBt
    isplitr; · iexact R10
    iexact R11
  iintro HO
  iapply (wp_bar_wait X κ c _ rfl _ (by decide) (above_ow false c 0 1 (by decide) (by decide))) $$ [HO Hcr Hbar]
  · isplitr; · iexact HR
    isplitl [HO]; · iexact HO
    isplitl [Hcr]; · iexact Hcr
    unfold at_; iexact Hbar
  iintro ⟨HO, Hbar, Hrf, Hrt⟩
  -- the local product
  iapply (wp_load 𝒱₀ (c : Thread nD τ) none Set.univ (m := (Memref.whole cc0_stg0_0 : Memref sig .tc .vmem S2048x1024 .f32)) (Finset.subset_univ _)) $$ Ha
  iintro Ha
  iapply (wp_load 𝒱₀ (c : Thread nD τ) none Set.univ (m := (Memref.whole cc0_stg1_0 : Memref sig .tc .vmem S1024x2048 .f32)) (Finset.subset_univ _)) $$ Hb
  iintro Hb
  iapply (wp_load 𝒱₀ (c : Thread nD τ) none Set.univ (m := outM) (Finset.subset_univ _)) $$ Ho
  iintro Ho
  iapply (wp_store 𝒱₀ (c : Thread nD τ) none Set.univ (m := outM) (r := Rect.unit (s := S2048x2048) ![0, 0] S2048x2048.size inb_S2048x2048_S2048x2048_0_0)
    (Mk := Finset.univ) (Finset.subset_univ _)) $$ Ho
  iintro Ho
  ihave HP := (product_stored X c a b o hX) $$ Ho
  icases HP with ⟨Pf, Pt⟩
  -- the reduce-scatter
  ihave HA := (H0_start X c false) $$ [Pf T00 Hrf C00a C00b C00c C00d C00e]
  · unfold cells0 at_
    isplitl [Pf]; · iexact Pf
    isplitl [T00]; · iexact T00
    isplitl [Hrf]; · iexact Hrf
    isplitl [C00a]; · iexact C00a
    isplitl [C00b]; · iexact C00b
    isplitl [C00c]; · isplitl [C00c]; · iexact C00c
                      iexact R00
    isplitl [C00d]; · isplitl [C00d]; · iexact C00d
                      iexact R01
    iexact C00e
  ihave HB := (H0_start X c true) $$ [Pt T01 Hrt C01a C01b C01c C01d C01e]
  · unfold cells0 at_
    isplitl [Pt]; · iexact Pt
    isplitl [T01]; · iexact T01
    isplitl [Hrt]; · iexact Hrt
    isplitl [C01a]; · iexact C01a
    isplitl [C01b]; · iexact C01b
    isplitl [C01c]; · isplitl [C01c]; · iexact C01c
                      iexact R10
    isplitl [C01d]; · isplitl [C01d]; · iexact C01d
                      iexact R11
    iexact C01e
  iapply (wp_rs X κ c (chk3_q c) (chk1_d (prv false c)) (chk2_d (nxt false c))) $$ [HO HA HB]
  · unfold inv
    isplitr; · iexact HR
    isplitl [HO]; · iexact HO
    isplitl [HA]; · iexact HA
    iexact HB
  unfold inv
  iintro ⟨-, HO, HA, HB⟩
  ihave HA := (H0_mid X c false) $$ HA
  icases HA with ⟨Pf, Bf, Hrf, C00⟩
  ihave HB := (H0_mid X c true) $$ HB
  icases HB with ⟨Pt, Bt, Hrt, C01⟩
  -- the activation of the completed chunks
  iapply (wp_act X c false _ (off9_eq c) _ rfl) $$ Pf
  iintro Pf
  iapply (wp_act X c true _ (off10_eq c) _ rfl) $$ Pt
  iintro Pt
  -- the all-gather
  ihave HA := (H0_turn X c false) $$ [Pf Bf T10 Hrf C10]
  · unfold cells0 at_
    isplitl [Pf]; · iexact Pf
    isplitl [Bf]; · iexact Bf
    isplitl [T10]; · iexact T10
    isplitl [Hrf]; · iexact Hrf
    iexact C10
  ihave HB := (H0_turn X c true) $$ [Pt Bt T11 Hrt C11]
  · unfold cells0 at_
    isplitl [Pt]; · iexact Pt
    isplitl [Bt]; · iexact Bt
    isplitl [T11]; · iexact T11
    isplitl [Hrt]; · iexact Hrt
    iexact C11
  iapply (wp_ag X κ c (chk3_q c) (chk1_d (prv false c)) (chk2_d (nxt false c))) $$ [HO HA HB]
  · unfold inv
    isplitr; · iexact HR
    isplitl [HO]; · rw [← ow_turn]; iexact HO
    isplitl [HA]; · iexact HA
    iexact HB
  unfold inv
  iintro ⟨-, HO, HA, HB⟩
  ihave HA := (H0_end X c false) $$ HA
  icases HA with ⟨Pf, Bf, C10⟩
  ihave HB := (H0_end X c true) $$ HB
  icases HB with ⟨Pt, Bt, C11⟩
  -- the cells close
  imod (close_dir X κ c false false) $$ [C00] with Z00
  · isplitr; · iexact HR
    iexact C00
  imod (close_dir X κ c false true) $$ [C01] with Z01
  · isplitr; · iexact HR
    iexact C01
  imod (close_dir X κ c true false) $$ [C10] with Z10
  · isplitr; · iexact HR
    iexact C10
  imod (close_dir X κ c true true) $$ [C11] with Z11
  · isplitr; · iexact HR
    iexact C11
  imod (close_cell X κ c _ (bar_mem c) 1 (over_bar X c)) $$ [Hbar] with Zb
  · isplitr; · iexact HR
    iexact Hbar
  rw [wp_ret]; imodintro
  iapply Hk
  ihave HOut := (pcs_end X c) $$ [Pf Pt]
  · isplitl [Pf]; · iexact Pf
    iexact Pt
  ihave HOut' := (Entails.of_eq (owns_whole (c : Thread nD τ) cc0_stg3_0 fullShare (resV X))) $$ HOut
  isplitl [HO Zb Z00 Z01 Z10 Z11 Bf Bt]
  · unfold done
    isplitl [HO]; · rw [← ow_end c]; iexact HO
    isplitl [Zb]; · iexact Zb
    isplitl [Z00 Z01 Z10 Z11]
    · isplitl [Z00]; · iexact Z00
      isplitl [Z01]; · iexact Z01
      isplitl [Z10]; · iexact Z10
      iexact Z11
    unfold bufAny
    isplitl [Bf]; · iapply (buf_join c false); iexact Bf
    iapply (buf_join c true); iexact Bt
  isplitl [Ha]; · iexact Ha
  isplitl [Hb]; · iexact Hb
  isplitl [Hq]; · iexact Hq
  iexact HOut'

end Cert.KProof

end
-- ==== Proof.Host.lean ====
/-
  The table the program hands the kernel: each device's position in the ring and its
  two neighbours, as the host operations before the kernel compute them.
-/
module

public import proofs.«01_k».proof.Proof.Body
public import Idealize.ShloMosaic.Lib.StableHlo.RunClose

@[expose] public section

set_option maxRecDepth 16384

noncomputable section

namespace Cert.KProof

open Idealize.ShloMosaic Idealize.ShloMosaic.TcCoe
open Idealize.ShloMosaic.StableHlo
open Cert.KernelIdeal Cert.KernelIdeal.Gen

variable {F : FTy → Type} [FloatOps F]
variable (m : (ℓ : Loc nD τ sig) → Buf (Elt F) ℓ)

/-- A negative index counts from the table's end. -/
def wrap (x : IVec S_ 32) : IVec S_ 32 :=
  select (cmpi .slt x (constantI S_ 32 0#32)) (addi x (constantI S_ 32 32#32)) x

/-- The entry of a table of 32 words at an index. -/
def look (t : Fin 32 → BitVec 32) (x : IVec S_ 32) : IVec S_ 32 := fun i =>
  shapeCast S_ (Host.dynamicSlice S1 (fun j : S32.Idx => t (S32.rowMajor j))
    (fun k => ((![x] : Fin 1 → IVec S_ 32) k (Shape.Idx.first h_S_)).toInt) sliceFits_S32_S1) shapeCasts_S1_S_ i

/-- The device's place in the ring, as the host operations compute it. -/
def posV (c : Dev nD) : IVec S_ 32 :=
  look lit1 (wrap (id (Host.remui (Host.divui (constantI S_ 32 c.word) (constantI S_ 32 1#32)) (constantI S_ 32 32#32))))

/-- The device at the place before, as the host operations compute it. -/
def leftV (c : Dev nD) : IVec S_ 32 :=
  look lit0 (wrap (Host.remsi (subi (addi (posV c) (constantI S_ 32 32#32)) (constantI S_ 32 1#32)) (constantI S_ 32 32#32)))

/-- The device at the place after, as the host operations compute it. -/
def rightV (c : Dev nD) : IVec S_ 32 :=
  look lit0 (wrap (Host.remsi (addi (posV c) (constantI S_ 32 1#32)) (constantI S_ 32 32#32)))

/-- The host's position of a device is its position in the ring. -/
theorem posV_eq : ∀ c i, posV c i = qw c := by decide +kernel
/-- The host's left neighbour is the device before. -/
theorem leftV_eq : ∀ c i, leftV c i = dw (prv false c) := by decide +kernel
/-- The host's right neighbour is the device after. -/
theorem rightV_eq : ∀ c i, rightV c i = dw (nxt false c) := by decide +kernel

/-- The first word of the table: the device's position in the ring. -/
theorem v25_eq (c : Dev nD) : V1 m c main_v25 = (fun _ => qw c : Vec F S1 .i32) := by
  show after (hostOps0 c) (V0 m c) (main_v25 : DevRef τ sig) = _
  after_results_simp_entrywise
  show broadcastInDim S1 ![] bcast_S_S1 (posV c) = _
  exact funext fun i => posV_eq c _

/-- The second word: the device before it. -/
theorem v26_eq (c : Dev nD) : V1 m c main_v26 = (fun _ => dw (prv false c) : Vec F S1 .i32) := by
  show after (hostOps0 c) (V0 m c) (main_v26 : DevRef τ sig) = _
  after_results_simp_entrywise
  show broadcastInDim S1 ![] bcast_S_S1 (leftV c) = _
  exact funext fun i => leftV_eq c _

/-- The third word: the device after it. -/
theorem v27_eq (c : Dev nD) : V1 m c main_v27 = (fun _ => dw (nxt false c) : Vec F S1 .i32) := by
  show after (hostOps0 c) (V0 m c) (main_v27 : DevRef τ sig) = _
  after_results_simp_entrywise
  show broadcastInDim S1 ![] bcast_S_S1 (rightV c) = _
  exact funext fun i => rightV_eq c _

/-- Three words in a row. -/
def three (a b d : IVec S1 32) : IVec S3 32 :=
  concatenate S3 0 [⟨S1, a⟩, ⟨S1, b⟩, ⟨S1, d⟩] concatenates_S1_S1_S1_S3_d0

/-- The table is the three words in a row. -/
theorem v28_eq (c : Dev nD) : V1 m c main_v28
    = (three (V1 m c main_v25) (V1 m c main_v26) (V1 m c main_v27) : Vec F S3 .i32) := by
  show after (hostOps0 c) (V0 m c) (main_v28 : DevRef τ sig) = three (after (hostOps0 c) (V0 m c) (main_v25 : DevRef τ sig))
    (after (hostOps0 c) (V0 m c) (main_v26 : DevRef τ sig)) (after (hostOps0 c) (V0 m c) (main_v27 : DevRef τ sig))
  rw [hostOps0]
  simp only [after_cons, after_nil]
  rw [nary_result', nary_result_ne' (h := by decide), nary_result_ne' (h := by decide), nary_result_ne' (h := by decide)]
  rfl

/-- The entries of three words in a row. -/
theorem three_eq : ∀ c i, three (fun _ => qw c) (fun _ => dw (prv false c)) (fun _ => dw (nxt false c)) i
    = ![qw c, dw (prv false c), dw (nxt false c)] (i 0) := by decide +kernel

/-- The table the kernel reads. -/
theorem table_eq (c : Dev nD) : V1 m c main_v28 = (qlrV c : Vec F S3 .i32) := by
  rw [v28_eq, v25_eq, v26_eq, v27_eq]
  exact funext fun i => three_eq c i

end Cert.KProof

end
-- ==== Proof.Deal.lean ====
/-
  What the launch deals: every duty's token to the device that pays the duty, and
  the credit for everything the devices owe to the device that waits for it.
-/
module

public import proofs.«01_k».proof.Proof.Body

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- One resource for each of two directions. -/
theorem sep_bool (Φ : Bool → sProp 𝕄) : bigSep Finset.univ Φ = iprop(Φ false ∗ Φ true) :=
  bigSep_univ_eq_bigSepL [false, true] (by decide) (by decide) Φ
/-- One resource for each of three semaphores. -/
theorem sep_three (Φ : Fin 3 → sProp 𝕄) : bigSep Finset.univ Φ = iprop(Φ 0 ∗ Φ 1 ∗ Φ 2) :=
  bigSep_univ_eq_bigSepL [0, 1, 2] (by decide) (by decide) Φ

/-! ## The tokens -/

/-- The semaphores of a hop: its send's, its landing's, its credit's. -/
def hopSem (ph d : Bool) (h : ℕ) : Fin 3 → SemLoc sig
  | 0 => .dma (sndS ph d h)
  | 1 => .dma (rcvS ph d h)
  | 2 => .reg (crdS ph d h)
/-- What the three semaphores of a hop are for. -/
def hopRole (ph d : Bool) (h : ℕ) : Fin 3 → Role
  | 0 => .snd ph d (h % 2)
  | 1 => .rcv ph d (h % 2)
  | 2 => .crd ph d (h % 2)
/-- The semaphores of a hop have these roles. -/
theorem role_hop (ph d : Bool) (h : ℕ) : ∀ k : Fin 3, role (hopSem ph d h k) = hopRole ph d h k
  | 0 => role_snd ph d h
  | 1 => role_rcv ph d h
  | 2 => role_crd ph d h
/-- The role tells the hop's phase, direction, parity and which of its semaphores it is. -/
theorem hopRole_inj {ph d ph' d' : Bool} {h h' : ℕ} {k k' : Fin 3} (e : hopRole ph d h k = hopRole ph' d' h' k') :
    ph = ph' ∧ d = d' ∧ h % 2 = h' % 2 ∧ k = k' := by
  fin_cases k <;> fin_cases k' <;> simp_all [hopRole]

/-- The hops of all devices: the device, the phase and direction, and the hop's number. -/
abbrev HopIx : Type := Dev nD × (Bool × Bool) × Fin 31

/-- The barrier's tokens: two of each device's cell. -/
def barTok : Dev nD × Bool ↪ GSem nD τ sig × ℕ × Bool :=
  ⟨fun x => (barC x.1, 0, x.2), fun x y e =>
    Prod.ext (congrArg (fun t : GSem nD τ sig × ℕ × Bool => t.1.1.1) e) (congrArg (fun t : GSem nD τ sig × ℕ × Bool => t.2.2) e)⟩
/-- The hops' tokens, by the device whose cell they belong to. -/
def hopToks : HopIx × Fin 3 ↪ GSem nD τ sig × ℕ × Bool :=
  ⟨fun x => (((x.1.1 : Thread nD τ), hopSem x.1.2.1.1 x.1.2.1.2 x.1.2.2.val x.2), x.1.2.2.val / 2, false), fun x y e => by
    obtain ⟨⟨c, ⟨ph, d⟩, h⟩, k⟩ := x
    obtain ⟨⟨c', ⟨ph', d'⟩, h'⟩, k'⟩ := y
    have hc : c = c' := congrArg (fun t : GSem nD τ sig × ℕ × Bool => t.1.1.1) e
    have hr : role (hopSem ph d h.val k) = role (hopSem ph' d' h'.val k') := congrArg (fun t : GSem nD τ sig × ℕ × Bool => role t.1.2) e
    have hh : h.val / 2 = h'.val / 2 := congrArg (fun t : GSem nD τ sig × ℕ × Bool => t.2.1) e
    rw [role_hop, role_hop] at hr
    obtain ⟨rfl, rfl, hm, rfl⟩ := hopRole_inj hr
    obtain rfl : h = h' := Fin.ext (by omega)
    rw [hc]⟩

/-- All tokens: those of the barrier and those of the hops. -/
def talkToks : Finset (GSem nD τ sig × ℕ × Bool) := Finset.univ.map barTok ∪ Finset.univ.map hopToks

/-- The barrier's tokens and the hops' are different. -/
theorem toks_disjoint : Disjoint (Finset.univ.map barTok) (Finset.univ.map hopToks) := by
  rw [Finset.disjoint_left]
  intro t h₁ h₂
  rw [Finset.mem_map] at h₁ h₂
  obtain ⟨x, -, ex⟩ := h₁
  obtain ⟨y, -, ey⟩ := h₂
  obtain ⟨⟨c, ⟨ph, d⟩, h⟩, k⟩ := y
  have e := ey.trans ex.symm
  have hs : hopSem ph d h.val k = .reg barS := congrArg (fun t : GSem nD τ sig × ℕ × Bool => t.1.2) e
  have hr := congrArg role hs
  rw [role_hop, role_bar] at hr
  fin_cases k <;> exact Role.noConfusion hr

/-- A move along the ring, in each direction its own way. -/
def barMove : Dev nD × Bool ≃ Dev nD × Bool :=
  ⟨fun x => (prv x.2 x.1, x.2), fun x => (nxt x.2 x.1, x.2), fun x => Prod.ext (nxt_prv _ _) rfl, fun x => Prod.ext (prv_nxt _ _) rfl⟩
/-- The same for the hops: each hop to the next device in its direction. -/
def hopMove : HopIx ≃ HopIx :=
  ⟨fun x => (nxt x.2.1.2 x.1, x.2), fun x => (prv x.2.1.2 x.1, x.2), fun x => Prod.ext (prv_nxt _ _) rfl, fun x => Prod.ext (nxt_prv _ _) rfl⟩

/-- The tokens of a hop that its device spends: to send, to land at the receiver, to credit the sender. -/
def hopDuty (ph d : Bool) (c : Dev nD) (h : ℕ) : sProp 𝕄 :=
  iprop(dutyTok ER (sndC ph d h c) (h / 2) false ∗ dutyTok ER (rcvC ph d h (nxt d c)) (h / 2) false ∗ ctok ph d c h)

/-- Every token in the hands of the device that spends it. -/
theorem toks_deal : bigSep talkToks (fun x => (dutyTok ER x.1 x.2.1 x.2.2 : sProp 𝕄))
    ⊢ bigSep Finset.univ fun c : Dev nD => iprop((dutyTok ER (barC (prv false c)) 0 false ∗ dutyTok ER (barC (prv true c)) 0 true)
        ∗ bigSep Finset.univ fun x : Bool × Bool => bigSep Finset.univ fun h : Fin 31 => hopDuty x.1 x.2 c h.val) := by
  have hb : (bigSep Finset.univ fun x : Dev nD × Bool => (dutyTok ER (barC x.1) 0 x.2 : sProp 𝕄))
      = bigSep Finset.univ fun c : Dev nD => iprop(dutyTok ER (barC (prv false c)) 0 false ∗ dutyTok ER (barC (prv true c)) 0 true) := by
    rw [bigSep_univ_equiv barMove, bigSep_univ_prod]
    refine bigSep_congr fun c _ => ?_
    rw [sep_bool]; rfl
  let S : HopIx → sProp 𝕄 := fun i => dutyTok ER (sndC i.2.1.1 i.2.1.2 i.2.2.val i.1) (i.2.2.val / 2) false
  let R : HopIx → sProp 𝕄 := fun i => dutyTok ER (rcvC i.2.1.1 i.2.1.2 i.2.2.val i.1) (i.2.2.val / 2) false
  let C : HopIx → sProp 𝕄 := fun i => dutyTok ER (crdC i.2.1.1 i.2.1.2 i.2.2.val i.1) (i.2.2.val / 2) false
  have h3 : (bigSep Finset.univ fun x : HopIx × Fin 3 => (dutyTok ER (hopToks x).1 (hopToks x).2.1 (hopToks x).2.2 : sProp 𝕄))
      = bigSep Finset.univ fun i : HopIx => iprop(S i ∗ R (hopMove i) ∗ C (hopMove.symm i)) := by
    rw [bigSep_univ_prod, bigSep_congr (Ψ := fun i => iprop(S i ∗ R i ∗ C i)) fun i _ => (sep_three _).trans rfl,
      bigSep_sep', bigSep_sep', bigSep_univ_equiv hopMove R, bigSep_univ_equiv hopMove.symm C, ← bigSep_sep', ← bigSep_sep']
  unfold talkToks
  rw [bigSep_union toks_disjoint, bigSep_map, bigSep_map, h3,
    show (bigSep Finset.univ fun x : Dev nD × Bool => (dutyTok ER (barTok x).1 (barTok x).2.1 (barTok x).2.2 : sProp 𝕄)) = _ from hb]
  have hm : (bigSep Finset.univ fun i : HopIx => iprop(S i ∗ R (hopMove i) ∗ C (hopMove.symm i)))
      ⊢ bigSep Finset.univ fun i : HopIx => (hopDuty i.2.1.1 i.2.1.2 i.1 i.2.2.val : sProp 𝕄) := bigSep_mono fun i _ => by
    show iprop(S i ∗ R (hopMove i) ∗ C (hopMove.symm i)) ⊢ hopDuty i.2.1.1 i.2.1.2 i.1 i.2.2.val
    refine BIClass.sep_mono (BI.Entails.refl _) (BIClass.sep_mono (BI.Entails.refl _) ?_)
    unfold ctok
    split
    · exact BI.Entails.refl _
    · iintro -
      iempintro
  refine (BIClass.sep_mono (BI.Entails.refl _) (hm.trans (Entails.of_eq ?_))).trans (Entails.of_eq (bigSep_sep' ..).symm)
  rw [bigSep_univ_prod]
  exact bigSep_congr fun c _ => bigSep_univ_prod _

/-! ## The credit -/

/-- What device `c` is owed at a hop: the landing of the hop, and, from the third hop on, the credit for its room. -/
def inL (ph d : Bool) (c : Dev nD) (h : ℕ) : CellTallies nD τ sig ℕ := tallyAt (rcvC ph d h c) (h / 2) N
/-- The credit among it: for the room of the hop, from the third hop on. -/
def inC (ph d : Bool) (c : Dev nD) (h : ℕ) : CellTallies nD τ sig ℕ := if 2 ≤ h then tallyAt (crdC ph d h c) (h / 2 - 1) 1 else 0
/-- All it is owed: two barrier signals, and every hop's. -/
def owed (c : Dev nD) : CellTallies nD τ sig ℕ :=
  tallyAt (barC c) 0 2 + ∑ x : Bool × Bool, ∑ i ∈ Finset.Ico 0 31, (inL x.1 x.2 c i + inC x.1 x.2 c i)

/-- The credits sent at hops up to 28 are those awaited from hop 2 on. -/
theorem sum_shift {M : Type} [AddCommMonoid M] (f : ℕ → M) :
    (∑ i ∈ Finset.Ico 0 31, if i ≤ 28 then f i else 0) = ∑ i ∈ Finset.Ico 0 31, if 2 ≤ i then f (i - 2) else 0 := by
  rw [← Finset.range_eq_Ico]
  simp [Finset.sum_range_succ]

/-- A device's dues, hop by hop. -/
theorem O₀_eq (c : Dev nD) : O₀ c = (tallyAt (barC (prv true c)) 0 1 + tallyAt (barC (prv false c)) 0 1)
    + ∑ x : Bool × Bool, ∑ i ∈ Finset.Ico 0 31, (owL x.1 x.2 c i + owC x.1 x.2 c i) := by
  unfold O₀ owB ow owPh owTail owPh owHop
  rw [if_neg Bool.false_ne_true, Fintype.sum_prod_type, Fintype.sum_bool, Fintype.sum_bool, Fintype.sum_bool]
  simp only [Finset.sum_add_distrib]
  ac_rfl

/-- A sum over devices may be taken over their next ones. -/
theorem sum_nxt {M : Type} [AddCommMonoid M] (d : Bool) (f : Dev nD → M) : (∑ c, f (nxt d c)) = ∑ c, f c := Equiv.sum_comp (nxtEquiv d) f
/-- A sum over devices may be taken over the ones before them. -/
theorem sum_prv {M : Type} [AddCommMonoid M] (d : Bool) (f : Dev nD → M) : (∑ c, f (prv d c)) = ∑ c, f c := Equiv.sum_comp (nxtEquiv d).symm f

/-- What the devices owe in all is what they are owed in all. -/
theorem sum_owed : (∑ c, O₀ c) = ∑ c, owed c := by
  have hL (x : Bool × Bool) : (∑ c, ∑ i ∈ Finset.Ico 0 31, owL x.1 x.2 c i) = ∑ c, ∑ i ∈ Finset.Ico 0 31, inL x.1 x.2 c i :=
    sum_nxt x.2 fun c => ∑ i ∈ Finset.Ico 0 31, inL x.1 x.2 c i
  have hC (x : Bool × Bool) : (∑ c, ∑ i ∈ Finset.Ico 0 31, owC x.1 x.2 c i) = ∑ c, ∑ i ∈ Finset.Ico 0 31, inC x.1 x.2 c i := by
    rw [← sum_prv x.2 fun c => ∑ i ∈ Finset.Ico 0 31, inC x.1 x.2 c i]
    refine Finset.sum_congr rfl fun c _ => ?_
    unfold owC inC
    rw [sum_shift fun i => (tallyAt (crdC x.1 x.2 i (prv x.2 c)) (i / 2) 1 : CellTallies nD τ sig ℕ)]
    refine Finset.sum_congr rfl fun i _ => ?_
    split
    · next h =>
      obtain ⟨j, rfl⟩ : ∃ j, i = j + 2 := ⟨i - 2, by omega⟩
      rw [show j + 2 - 2 = j by omega, show (j + 2) / 2 - 1 = j / 2 by omega]
      unfold crdC; rw [crdS_two]
    · rfl
  simp only [O₀_eq, owed, Finset.sum_add_distrib]
  refine congrArg₂ (· + ·) ?_ ?_
  · rw [sum_prv true fun c => (tallyAt (barC c) 0 1 : CellTallies nD τ sig ℕ), sum_prv false fun c => (tallyAt (barC c) 0 1 : CellTallies nD τ sig ℕ),
      ← Finset.sum_add_distrib]
    exact Finset.sum_congr rfl fun c _ => tallyAt_add _ _ _ _
  · refine congrArg₂ (· + ·) ?_ ?_
    · exact Finset.sum_comm.trans ((Finset.sum_congr rfl fun x _ => hL x).trans Finset.sum_comm)
    · exact Finset.sum_comm.trans ((Finset.sum_congr rfl fun x _ => hC x).trans Finset.sum_comm)

/-- What `T` counts is all on device `c`'s core. -/
def OnCore (c : Dev nD) (T : CellTallies nD τ sig ℕ) : Prop := ∀ g, T g ≠ 0 → g.1 = (c.tc : Thread nD τ)
/-- Nothing is on any core. -/
theorem OnCore.zero (c : Dev nD) : OnCore c 0 := fun g h => absurd rfl h
/-- Two dues on a core make one on it. -/
theorem OnCore.add {c : Dev nD} {T T' : CellTallies nD τ sig ℕ} (h : OnCore c T) (h' : OnCore c T') : OnCore c (T + T') := fun g hg => by
  by_cases e : T g = 0
  · exact h' g fun e' => hg (by rw [Pi.add_apply, e, e', add_zero])
  · exact h g e
/-- A due to a core's semaphore is on that core. -/
theorem OnCore.tally (c : Dev nD) (sm : SemLoc sig) (r n : ℕ) : OnCore c (tallyAt ((c : Thread nD τ), sm) r n) := fun g hg => by
  by_contra e
  exact hg (tallyAt_ne_cell (fun h => e (congrArg Prod.fst h)) r n)
/-- What a device is owed is on its own core. -/
theorem owed_core (c : Dev nD) : OnCore c (owed c) := by
  unfold owed
  refine (OnCore.tally c _ _ _).add (Finset.sum_induction _ (OnCore c) (fun _ _ h h' => h.add h') (OnCore.zero c) fun x _ =>
    Finset.sum_induction _ (OnCore c) (fun _ _ h h' => h.add h') (OnCore.zero c) fun i _ => (OnCore.tally c _ _ _).add ?_)
  unfold inC; split
  · exact OnCore.tally c _ _ _
  · exact OnCore.zero c

/-- The credit a hop waits on. -/
def hopCred (ph d : Bool) (c : Dev nD) (h : ℕ) : sProp 𝕄 := iprop(cred (tallyAt (rcvC ph d h c) (h / 2) N) ∗ wcred ph d c h)

/-- The credit the launch gives device `c`. -/
theorem creds (c : Dev nD) : (Pipeline.launchCred O₀ c : sProp 𝕄)
    ⊢ iprop(cred (tallyAt (barC c) 0 2) ∗ bigSep Finset.univ fun x : Bool × Bool => bigSep (Finset.Ico 0 31) fun i => hopCred x.1 x.2 c i) := by
  rw [Pipeline.launchCred_of_sum O₀ owed sum_owed owed_core c]
  unfold owed
  refine (cred_add _ _).1.trans (BIClass.sep_mono (BI.Entails.refl _) ?_)
  rw [Pipeline.cred_finsetSum]
  refine bigSep_mono fun x _ => ?_
  rw [Pipeline.cred_finsetSum]
  refine bigSep_mono fun i _ => ?_
  refine (cred_add _ _).1.trans ?_
  unfold hopCred inL inC wcred
  refine BIClass.sep_mono (BI.Entails.refl _) ?_
  split
  · exact BI.Entails.refl _
  · rw [cred_zero]

/-- Tokens and credit of one direction of one phase. -/
theorem toks_join (ph d : Bool) (c : Dev nD) :
    iprop((bigSep Finset.univ fun h : Fin 31 => hopDuty (F := F) ph d c h.val) ∗ bigSep (Finset.Ico 0 31) fun i => hopCred ph d c i) ⊢ toks ph d c 0 := by
  have e : (bigSep Finset.univ fun h : Fin 31 => hopDuty (F := F) ph d c h.val) = bigSep (Finset.Ico 0 31) fun i => hopDuty ph d c i := by
    rw [show Finset.Ico 0 31 = (Finset.univ : Finset (Fin 31)).map Fin.valEmbedding from by decide, bigSep_map]; rfl
  rw [e]
  unfold toks
  refine (Entails.of_eq (bigSep_sep' ..).symm).trans (bigSep_mono fun i _ => ?_)
  show iprop(hopDuty ph d c i ∗ hopCred ph d c i) ⊢ hopTok (F := F) ph d c i
  unfold hopDuty hopCred hopTok
  iintro ⟨⟨H1, H2, H3⟩, H4, H5⟩
  isplitl [H1]; · iexact H1
  isplitl [H2]; · iexact H2
  isplitl [H4]; · iexact H4
  isplitl [H3]; · iexact H3
  iexact H5

end Cert.KProof

end
-- ==== Proof.Open.lean ====
/-
  The launch's step: every cell's invariant made, the kernel's own semaphores left to be
  opened at the kernel's start, and each device holding what it needs to start.
-/
module

public import proofs.«01_k».proof.Proof.Deal

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The kernel's own semaphores -/

/-- The semaphores a device brings into the call: two phases, two directions, and for each six. -/
abbrev SemIx : Type := (Bool × Bool) × Fin 6
/-- The six semaphores of each direction of each phase. -/
def osem (x : SemIx) : SemLoc sig := match x.2 with
  | 0 => .dma (sndS x.1.1 x.1.2 0)
  | 1 => .dma (sndS x.1.1 x.1.2 1)
  | 2 => .dma (rcvS x.1.1 x.1.2 0)
  | 3 => .dma (rcvS x.1.1 x.1.2 1)
  | 4 => .reg (crdS x.1.1 x.1.2 0)
  | 5 => .reg (crdS x.1.1 x.1.2 1)

/-- They are different from each other and from the windows' semaphores. -/
theorem osem_facts : Pipeline.OwnSemFacts spec0 osem := by decide +kernel
/-- Each of them serves the hops. -/
theorem osem_role : ∀ x : SemIx, role (osem x) ≠ .none ∧ role (osem x) ≠ .bar := by decide +kernel
/-- Every semaphore that serves the hops is one of them. -/
theorem osem_all : ∀ sm : SemLoc sig, role sm ≠ .none → role sm ≠ .bar → ∃ x : SemIx, osem x = sm := by decide +kernel

/-- The barrier's cells, one for each device. -/
def barEmb : Dev nD ↪ GSem nD τ sig := ⟨fun c => barC c, fun _ _ h => congrArg (fun g : GSem nD τ sig => g.1.1) h⟩
/-- The hops' cells, one for each device and semaphore. -/
def scEmb : Dev nD × SemIx ↪ GSem nD τ sig :=
  ⟨fun x => ((x.1 : Thread nD τ), osem x.2), fun _ _ h =>
    Prod.ext (congrArg (fun g : GSem nD τ sig => g.1.1) h) (osem_facts.inj (congrArg Prod.snd h))⟩

/-- The barrier's cells are all of these. -/
theorem barCells_eq : barCells = Finset.univ.map barEmb := (Finset.map_eq_image barEmb Finset.univ).symm
/-- The hops' cells are all of these. -/
theorem scCells_eq : scCells = Finset.univ.map scEmb := by
  ext g
  unfold scCells
  rw [Finset.mem_filter, Finset.mem_map]
  constructor
  · rintro ⟨-, h1, h2, h3⟩
    obtain ⟨⟨c, p⟩, sm⟩ := g
    obtain ⟨x, hx⟩ := osem_all sm h2 h3
    refine ⟨(c, x), Finset.mem_univ _, ?_⟩
    show ((c, Proc.tc), osem x) = ((c, p), sm)
    rw [hx, show p = Proc.tc from h1]
  · rintro ⟨x, -, e⟩
    rw [← e]
    exact ⟨Finset.mem_univ _, rfl, (osem_role x.2).1, (osem_role x.2).2⟩
/-- The barrier's cells and the hops' are different. -/
theorem cells_disjoint : Disjoint barCells scCells := by
  rw [Finset.disjoint_left]
  intro g h₁ h₂
  unfold barCells at h₁
  unfold scCells at h₂
  rw [Finset.mem_image] at h₁
  rw [Finset.mem_filter] at h₂
  obtain ⟨c, -, rfl⟩ := h₁
  exact h₂.2.2.2 role_bar
/-- A device's semaphores are cells of the schedule. -/
theorem osem_mem (c : Dev nD) (x : SemIx) : ((c : Thread nD τ), osem x) ∈ cells :=
  Finset.mem_union_right _ (Finset.mem_filter.mpr ⟨Finset.mem_univ _, rfl, osem_role x⟩)

/-- One resource for each phase and direction. -/
theorem sep_dirs (Φ : Bool × Bool → sProp 𝕄) : bigSep Finset.univ Φ = iprop(Φ (false, false) ∗ Φ (false, true) ∗ Φ (true, false) ∗ Φ (true, true)) :=
  bigSep_univ_eq_bigSepL [(false, false), (false, true), (true, false), (true, true)] (by decide) (by decide) Φ
/-- One resource for each of six semaphores. -/
theorem sep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A thing for each of a device's own semaphores. -/
theorem sep_sems (Φ : SemLoc sig → sProp 𝕄) : (bigSep Finset.univ fun x : SemIx => Φ (osem x))
    = bigSep Finset.univ fun p : Bool × Bool => iprop(Φ (.dma (sndS p.1 p.2 0)) ∗ Φ (.dma (sndS p.1 p.2 1)) ∗ Φ (.dma (rcvS p.1 p.2 0))
      ∗ Φ (.dma (rcvS p.1 p.2 1)) ∗ Φ (.reg (crdS p.1 p.2 0)) ∗ Φ (.reg (crdS p.1 p.2 1))) := by
  rw [bigSep_univ_prod]
  exact bigSep_congr fun p _ => sep_six fun k => Φ (osem (p, k))

/-- A device's counters at zero, by phase and direction. -/
theorem ownSems_eq (c : Dev nD) : (Pipeline.ownSems0 osem c : sProp 𝕄)
    = iprop(zeros c false false ∗ zeros c false true ∗ zeros c true false ∗ zeros c true true) :=
  (sep_sems fun sm => (semVal ((c : Thread nD τ), sm) 0 : sProp 𝕄)).trans (sep_dirs _)
/-- A device's places at the start, by phase and direction. -/
theorem places_eq (c : Dev nD) : (bigSep Finset.univ fun x : SemIx => (at_ ((c : Thread nD τ), osem x) 0 : sProp 𝕄))
    = iprop(cells0 c false false ∗ cells0 c false true ∗ cells0 c true false ∗ cells0 c true true) :=
  (sep_sems fun sm => (at_ ((c : Thread nD τ), sm) 0 : sProp 𝕄)).trans (sep_dirs _)

variable (X : Dev nD → Vec F S2048x2048 .f32)

/-! ## What the launch leaves -/

/-- Records any device may read: every cell's invariant, and that every barrier cell stands at its start. -/
def records (κ : GSem nD τ sig → ℕ) : sProp 𝕄 :=
  iprop((bigSep cells fun g => cellInv ER (sched X) (κ g) g) ∗ bigSep Finset.univ fun c' : Dev nD => reached ER (barC c') 0)
/-- The records may be used any number of times. -/
instance records_persistent (κ : GSem nD τ sig → ℕ) : BI.Persistent (records X κ) := by unfold records; infer_instance

/-- What only device `c` holds: its place at the barrier, the right to open its own semaphores, the tokens it spends. -/
def linear (c : Dev nD) : sProp 𝕄 :=
  iprop(atPos ER (barC c) 0 ∅ 0 ∗ (bigSep Finset.univ fun x : SemIx => openTok ER ((c : Thread nD τ), osem x))
    ∗ (dutyTok ER (barC (prv false c)) 0 false ∗ dutyTok ER (barC (prv true c)) 0 true)
    ∗ bigSep Finset.univ fun x : Bool × Bool => bigSep Finset.univ fun h : Fin 31 => hopDuty x.1 x.2 c h.val)

/-- The devices' barrier counters are the counters of the barrier's cells. -/
theorem bars_vals : (bigSep Finset.univ fun c : Dev nD => (semVal (barC c) 0 : sProp 𝕄)) ⊢ bigSep barCells (fun g => (semVal g 0 : sProp 𝕄)) := by
  rw [barCells_eq, bigSep_map]; exact BI.Entails.refl _
/-- The places in the barrier's cells, device by device. -/
theorem bars_at : bigSep barCells (fun g => (atPos ER g 0 ∅ 0 : sProp 𝕄)) ⊢ bigSep Finset.univ (fun c : Dev nD => (atPos ER (barC c) 0 ∅ 0 : sProp 𝕄)) := by
  rw [barCells_eq, bigSep_map]; exact BI.Entails.refl _
/-- The barrier's first rounds are open, device by device. -/
theorem bars_reached : bigSep barCells (fun g => (reached ER g 0 : sProp 𝕄)) ⊢ bigSep Finset.univ (fun c : Dev nD => (reached ER (barC c) 0 : sProp 𝕄)) := by
  rw [barCells_eq, bigSep_map]; exact BI.Entails.refl _
/-- The rights to open the hops' cells, device by device. -/
theorem opens_deal : bigSep scCells (fun g => (openTok ER g : sProp 𝕄))
    ⊢ bigSep Finset.univ (fun c : Dev nD => bigSep Finset.univ fun x : SemIx => openTok ER ((c : Thread nD τ), osem x)) := by
  rw [scCells_eq, bigSep_map, bigSep_univ_prod]; exact BI.Entails.refl _

/-- The launch's ghost state and the barrier's counters make the cells' invariants, places, rights and tokens. -/
theorem funded : iprop(bigSep barCells (fun g => (semVal g 0 : sProp 𝕄)) ∗ BI.own (ER (F := F) (launchOf barCells scCells talkToks)))
    ⊢ (|={Set.univ}=> iprop(∃ κ : GSem nD τ sig → ℕ, (bigSep cells fun g => cellInv ER (sched X) (κ g) g) ∗ bigSep barCells (fun g => reached ER g 0)
      ∗ bigSep barCells (fun g => atPos ER g 0 ∅ 0) ∗ bigSep scCells (fun g => openTok ER g)
      ∗ bigSep talkToks (fun x => dutyTok ER x.1 x.2.1 x.2.2)) : sProp 𝕄) := by
  have h := Rounds.fund_launch (Es := Set.univ) ER (sched X) cells_disjoint (fun g _ h => h) talkToks
  iintro H
  imod h $$ H with ⟨%κ, -, H⟩
  imodintro
  iexists κ
  iexact H

/-- Places, rights and tokens make every device's own part. -/
theorem linear_deal : iprop((bigSep Finset.univ fun c : Dev nD => (atPos ER (barC c) 0 ∅ 0 : sProp 𝕄))
      ∗ (bigSep Finset.univ fun c : Dev nD => bigSep Finset.univ fun x : SemIx => (openTok ER ((c : Thread nD τ), osem x) : sProp 𝕄))
      ∗ bigSep Finset.univ fun c : Dev nD => iprop((dutyTok ER (barC (prv false c)) 0 false ∗ dutyTok ER (barC (prv true c)) 0 true)
        ∗ bigSep Finset.univ fun x : Bool × Bool => bigSep Finset.univ fun h : Fin 31 => hopDuty (F := F) x.1 x.2 c h.val))
    ⊢ (bigSep Finset.univ fun c : Dev nD => linear c : sProp 𝕄) := by
  unfold linear
  exact Entails.of_eq (by simp only [bigSep_sep'])

/-- The step itself, from the barrier counters and the launch's ghost state. -/
theorem fund : iprop((bigSep Finset.univ fun c : Dev nD => semVal (barC c) 0) ∗ BI.own (ER (F := F) (launchOf barCells scCells talkToks)))
    ⊢ (|={Set.univ}=> iprop(∃ κ, records X κ ∗ bigSep Finset.univ fun c : Dev nD => linear c) : sProp 𝕄) := by
  iintro ⟨Hv, Hu⟩
  imod (funded X) $$ [Hv Hu] with ⟨%κ, #HI, #Hr, Hat, Hopen, Htok⟩
  · isplitl [Hv]
    · iapply (bars_vals (F := F)) $$ Hv
    · iexact Hu
  imodintro
  iexists κ
  isplitr
  · unfold records
    isplitr; · iexact HI
    iapply (bars_reached (F := F)) $$ Hr
  iapply (linear_deal (F := F))
  isplitl [Hat]; · iapply (bars_at (F := F)) $$ Hat
  isplitl [Hopen]; · iapply (opens_deal (F := F)) $$ Hopen
  iapply (toks_deal (F := F)) $$ Htok

/-! ## From the launch to the kernel's start -/

/-- Tokens and credit of a device, by phase and direction. -/
def allToks (c : Dev nD) : sProp 𝕄 := iprop(toks false false c 0 ∗ toks false true c 0 ∗ toks true false c 0 ∗ toks true true c 0)
/-- The tokens of the two barrier signals. -/
def barToks (c : Dev nD) : sProp 𝕄 := iprop(dutyTok ER (barC (prv false c)) 0 false ∗ dutyTok ER (barC (prv true c)) 0 true)

/-- What device `c` carries up to the kernel. -/
def Tk (c : Dev nD) : sProp 𝕄 :=
  iprop(∃ κ, records X κ ∗ barToks c ∗ cred (tallyAt (barC c) 0 2) ∗ atPos ER (barC c) 0 ∅ 0 ∗ allToks c
    ∗ bigSep Finset.univ fun x : SemIx => openTok ER ((c : Thread nD τ), osem x))
/-- What it starts the kernel with: the kit but for what it owes. -/
def Xk (c : Dev nD) : sProp 𝕄 :=
  iprop(∃ κ, recs X κ c ∗ barToks c ∗ cred (tallyAt (barC c) 0 2) ∗ at_ (barC c) 0 ∗ allToks c
    ∗ cells0 c false false ∗ cells0 c false true ∗ cells0 c true false ∗ cells0 c true true)

/-- A device's part, with the launch's credit, is what it carries up to the kernel. -/
theorem Tk_intro (κ : GSem nD τ sig → ℕ) (c : Dev nD) : iprop(records X κ ∗ (linear c ∗ Pipeline.launchCred O₀ c)) ⊢ Tk X c := by
  have hj : iprop((bigSep Finset.univ fun x : Bool × Bool => bigSep Finset.univ fun h : Fin 31 => hopDuty (F := F) x.1 x.2 c h.val)
      ∗ bigSep Finset.univ fun x : Bool × Bool => bigSep (Finset.Ico 0 31) fun i => hopCred x.1 x.2 c i) ⊢ allToks c := by
    refine (Entails.of_eq (bigSep_sep' ..).symm).trans ((bigSep_mono fun x _ => toks_join x.1 x.2 c).trans (Entails.of_eq (sep_dirs _)))
  unfold linear Tk barToks
  iintro ⟨HR, ⟨Hat, Hop, Hb, Hd⟩, Hc⟩
  ihave Hc := (creds (F := F) c) $$ Hc
  icases Hc with ⟨H2, Hc⟩
  iexists κ
  isplitl [HR]; · iexact HR
  isplitl [Hb]; · iexact Hb
  isplitl [H2]; · iexact H2
  isplitl [Hat]; · iexact Hat
  isplitl [Hd Hc]
  · iapply hj
    isplitl [Hd]; · iexact Hd
    iexact Hc
  iexact Hop

/-- The kernel's own semaphores opened, each by its counter at zero. -/
theorem open_sems (κ : GSem nD τ sig → ℕ) (c : Dev nD) :
    iprop(records X κ ∗ (bigSep Finset.univ fun x : SemIx => openTok ER ((c : Thread nD τ), osem x)) ∗ Pipeline.ownSems0 osem c)
    ⊢ (|={Set.univ}=> iprop(cells0 c false false ∗ cells0 c false true ∗ cells0 c true false ∗ cells0 c true true) : sProp 𝕄) := by
  rw [← places_eq]
  have h1 (x : SemIx) : iprop(records X κ ∗ (openTok ER ((c : Thread nD τ), osem x) ∗ semVal ((c : Thread nD τ), osem x) 0))
      ⊢ (|={Set.univ}=> at_ ((c : Thread nD τ), osem x) 0 : sProp 𝕄) := by
    unfold records at_
    iintro ⟨⟨#HI, -⟩, Ho, Hs⟩
    ihave #Hi := (show (bigSep cells fun g => (cellInv ER (sched X) (κ g) g : sProp 𝕄)) ⊢ cellInv ER (sched X) (κ ((c : Thread nD τ), osem x)) ((c : Thread nD τ), osem x)
      from bigSep_elim (osem_mem c x)) $$ HI
    iapply (Rounds.cell_open ER (sched X) (g := ((c : Thread nD τ), osem x)) (Set.mem_univ (κ _)))
    isplitr; · iexact Hi
    isplitl [Ho]; · iexact Ho
    iexact Hs
  refine BIBase.Entails.trans ?_ (bigSep_fupd Finset.univ fun x : SemIx => (at_ ((c : Thread nD τ), osem x) 0 : sProp 𝕄))
  refine BIBase.Entails.trans (BIClass.sep_mono (BI.Entails.refl _) (Entails.of_eq (bigSep_sep' ..).symm)) ?_
  exact bigSep_with_persistent fun x _ => h1 x

/-- The all-gather's receive cells, taken together. -/
theorem reached_dirs (c : Dev nD) : iprop((reached ER (rcvC true false 0 c) 0 ∗ reached ER (rcvC true false 1 c) 0)
      ∗ (reached ER (rcvC true true 0 c) 0 ∗ reached ER (rcvC true true 1 c) 0))
    ⊢ (bigSep Finset.univ fun x : Bool × Fin 2 => reached ER (rcvC true x.1 x.2.val c) 0 : sProp 𝕄) := by
  rw [bigSep_univ_prod, sep_bool, BI.bigSep_fin_two, BI.bigSep_fin_two]
  exact BI.Entails.refl _

/-- At the call's start a device opens its semaphores as cells of the schedule. -/
theorem hopen (c : Dev nD) : iprop(Tk X c ∗ Pipeline.ownSems0 osem c ∗ levAts L lv) ⊢ (|={Set.univ}=> Xk X c : sProp 𝕄) := by
  unfold Tk
  iintro ⟨⟨%κ, #HR, Hb, H2, Hat, Ht, Hop⟩, Hs, #Hl⟩
  imod (open_sems X κ c) $$ [Hop Hs] with ⟨H1, H3, H5, H7⟩
  · isplitr; · iexact HR
    isplitl [Hop]; · iexact Hop
    iexact Hs
  imodintro
  unfold Xk
  iexists κ
  unfold records
  icases HR with ⟨#HI, #Hr⟩
  ihave #Hrc := (show (bigSep Finset.univ fun c' : Dev nD => (reached ER (barC c') 0 : sProp 𝕄)) ⊢ reached ER (barC c) 0 from bigSep_elim (Finset.mem_univ c)) $$ Hr
  unfold cells0 at_
  icases H5 with ⟨A1, A2, ⟨A3, #R3⟩, ⟨A4, #R4⟩, A5⟩
  icases H7 with ⟨B1, B2, ⟨B3, #S3⟩, ⟨B4, #S4⟩, B5⟩
  isplitr
  · unfold recs
    isplitr; · iexact HI
    isplitr; · iexact Hl
    isplitr
    · iapply (reached_dirs (F := F) c)
      isplitr
      · isplitr; · iexact R3
        iexact R4
      · isplitr; · iexact S3
        iexact S4
    iexact Hr
  isplitl [Hb]; · iexact Hb
  isplitl [H2]; · iexact H2
  isplitl [Hat]
  · isplitl [Hat]; · iexact Hat
    iexact Hrc
  isplitl [Ht]; · iexact Ht
  isplitl [H1]; · iexact H1
  isplitl [H3]; · iexact H3
  isplitl [A1 A2 A3 A4 A5]
  · isplitl [A1]; · iexact A1
    isplitl [A2]; · iexact A2
    isplitl [A3]
    · isplitl [A3]; · iexact A3
      iexact R3
    isplitl [A4]
    · isplitl [A4]; · iexact A4
      iexact R4
    iexact A5
  · isplitl [B1]; · iexact B1
    isplitl [B2]; · iexact B2
    isplitl [B3]
    · isplitl [B3]; · iexact B3
      iexact S3
    isplitl [B4]
    · isplitl [B4]; · iexact B4
      iexact S4
    iexact B5

end Cert.KProof

end
-- ==== Proof.Region.lean ====
/-
  The kernel's call as one segment of the program: what each window's array holds before
  and after, what the body is entered with and what it leaves.
-/
module

public import proofs.«01_k».proof.Proof.Host
public import proofs.«01_k».proof.Proof.Open
public import Idealize.ShloMosaic.Lib.Pipeline.RegionTalk

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A device's operands. -/
def opA (c : Dev nD) : Vec F S2048x1024 .f32 := m ((c : Thread nD τ).loc main_arg0)
/-- A device's second operand. -/
def opB (c : Dev nD) : Vec F S1024x2048 .f32 := m ((c : Thread nD τ).loc main_arg1)
/-- A device's own product. -/
def part (c : Dev nD) : Vec F S2048x2048 .f32 := k0_pay7 (opA m c) (opB m c)
/-- What every device ends with. -/
def res : Vec F S2048x2048 .f32 := resV (part m)
/-- The one buffer the kernel changes. -/
def outs : Outs (F := F) := fun _ r c => V1 m c r |> fun v => if h : r = main_v29 then h ▸ (res m : Vec F S2048x2048 .f32) else v

/-- After the call the result's array holds the result. -/
theorem V2_out (c : Dev nD) : V2 m (outs m) c main_v29 = res m := by
  simp only [V2, Function.update_self]
  rfl

/-- What the body is entered with besides the windows. -/
def Φ₀ (c : Dev nD) : sProp 𝕄 := iprop(Xk (part m) c ∗ bufAny c false ∗ bufAny c true ∗ ∃ r, prngReg c r)
/-- What it leaves besides the windows. -/
def Φ₁ (c : Dev nD) : sProp 𝕄 :=
  iprop(semVal (barC c) 0 ∗ (zeros c false false ∗ zeros c false true ∗ zeros c true false ∗ zeros c true true)
    ∗ bufAny c false ∗ bufAny c true ∗ ∃ r, prngReg c r)

/-- The kernel's windows, invariant and dues. -/
def dats (_ : Fin 1) (c : Dev nD) : Dat τ (Elt F) ℕ ℕ UU ℕ cfg0 c where
  A w := V1 m c (Proc.devRef .tc (Pipeline.arrRef spec0 w))
  after w _ := match w with
    | ⟨0, _⟩ => opA m c
    | ⟨1, _⟩ => opB m c
    | ⟨2, _⟩ => (qlrV c : Vec F S3 .i32)
    | ⟨3, _⟩ => res m
  Φ t := match t with
    | ⟨0, _⟩ => Φ₀ m c
    | ⟨_ + 1, _⟩ => Φ₁ c
  q _ := fullShare
  owed t := match t with
    | ⟨0, _⟩ => O₀ c
    | ⟨_ + 1, _⟩ => 0

/-- Every window's array is held whole. -/
theorem share_eq (c : Dev nD) (w : Fin cfg0.W) : (dats m 0 c).share w = fullShare := by unfold Dat.share; split <;> rfl

/-- The block of the first operand's window is the whole operand. -/
theorem read0 (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
/-- The block of the second operand's window is the whole operand. -/
theorem read1 (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
/-- The block of the table's window is the whole table. -/
theorem read2 (f : (main_v28 : Ref sig .tc).ty.Contents (Elt F)) : (win0_2.blk (0 : Fin 1)).view.read (Elt F) f = f :=
  Memref.read_access_unit_zero (Elt F) main_v28 (funext fun a => by fin_cases a <;> decide) (fun a => by fin_cases a <;> decide) f
/-- The block of the result's window is the whole result. -/
theorem read3 (f : (main_v29 : Ref sig .tc).ty.Contents (Elt F)) : (win0_3.blk (0 : Fin 1)).view.read (Elt F) f = f :=
  Memref.read_access_unit_zero (Elt F) main_v29 (funext fun a => by fin_cases a <;> decide) (fun a => by fin_cases a <;> decide) f

/-- The body finds the first operand staged. -/
theorem before0 (c : Dev nD) d : (dats m 0 c).before (0 : Fin 4) t0_0 d = opA m c := by
  unfold Dat.before; rw [if_pos (by decide)]
  exact (read0 _).trans (V1_of m c main_arg0 (by decide))
/-- The body finds the second operand staged. -/
theorem before1 (c : Dev nD) d : (dats m 0 c).before (1 : Fin 4) t0_0 d = opB m c := by
  unfold Dat.before; rw [if_pos (by decide)]
  exact (read1 _).trans (V1_of m c main_arg1 (by decide))
/-- The body finds the table staged. -/
theorem before2 (c : Dev nD) d : (dats m 0 c).before (2 : Fin 4) t0_0 d = (qlrV c : Vec F S3 .i32) := by
  unfold Dat.before; rw [if_pos (by decide)]
  exact (read2 _).trans (table_eq m c)

/-- A staging buffer at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a staging buffer, said in two ways. -/
theorem stg_owns (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- All that the body is entered with. -/
def bodyPre (c : Dev nD) : sProp 𝕄 :=
  iprop(Φ₀ m c ∗ (dats m 0 c).owesAt 0 t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
/-- All that the body leaves. -/
def bodyPost (c : Dev nD) : sProp 𝕄 :=
  iprop(Φ₁ c ∗ (dats m 0 c).owesAt 0 t0_0.succ
    ∗ stg c cc0_stg0_0 (opA m c) ∗ stg c cc0_stg1_0 (opB m c) ∗ stg c cc0_stg2_0 (qlrV c : Vec F S3 .i32) ∗ stg c cc0_stg3_0 (res m))

/-- What the body owes at its start. -/
theorem owes_first (c : Dev nD) : (dats m 0 c).owesAt 0 t0_0.castSucc ⊢ (owesE c (O₀ c) : sProp 𝕄) := by
  unfold Dat.owesAt Pipeline.owesWithin owesE
  rw [show (dats m 0 c).owed t0_0.castSucc = O₀ c from rfl]
  iintro ⟨%W, -, HO⟩
  iexists W; iexact HO
/-- A body that owes nothing is done. -/
theorem owes_last (c : Dev nD) : (owesE c 0 : sProp 𝕄) ⊢ (dats m 0 c).owesAt 0 t0_0.succ := by
  unfold Dat.owesAt Pipeline.owesWithin owesE
  rw [show (dats m 0 c).owed t0_0.succ = 0 from rfl]
  iintro ⟨%W, HO⟩
  iexists W
  isplitr; · ipureintro; exact fun _ _ => Or.inl trivial
  iexact HO

/-- The body from its invariant's first point to its last. -/
theorem sound (c : Dev nD) : bodyPre m c ⊢ WP c (theBody (F := F)) (fun _ => bodyPost m c) := by
  unfold bodyPre Φ₀ Xk
  iintro ⟨⟨⟨%κ, HR, Hb, Hcr, Hat, Ht, HC⟩, Bf, Bt, Hp⟩, HO, ⟨%d0, %f0, %h0, H0⟩, ⟨%d1, %f1, %h1, H1⟩, ⟨%d2, %f2, %h2, H2⟩, ⟨%d3, %f3, -, H3⟩⟩
  rw [before0] at h0; rw [before1] at h1; rw [before2] at h2
  subst h0 h1 h2
  ihave HO := (owes_first m c) $$ HO
  iapply (body_run (part m) κ c (opA m c) (opB m c) f3 rfl) $$ [HR Hb Hcr Hat Ht HC Bf Bt HO H0 H1 H2 H3]
  · unfold kit barToks allToks
    isplitl [HR HO Hb Hcr Hat Ht HC]
    · isplitl [HR]; · iexact HR
      isplitl [HO]; · iexact HO
      isplitl [Hb]; · iexact Hb
      isplitl [Hcr]; · iexact Hcr
      isplitl [Hat]; · iexact Hat
      isplitl [Ht]; · iexact Ht
      iexact HC
    isplitl [Bf]; · iexact Bf
    isplitl [Bt]; · iexact Bt
    isplitl [H0]; · iexact H0
    isplitl [H1]; · iexact H1
    isplitl [H2]; · iexact H2
    iexact H3
  unfold done
  iintro ⟨⟨HO, Hb, Hz, Bf, Bt⟩, H0, H1, H2, H3⟩
  unfold bodyPost Φ₁
  isplitl [Hb Hz Bf Bt Hp]
  · isplitl [Hb]; · iexact Hb
    isplitl [Hz]; · iexact Hz
    isplitl [Bf]; · iexact Bf
    isplitl [Bt]; · iexact Bt
    iexact Hp
  isplitl [HO]; · iapply (owes_last m c) $$ HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body meets what the call asks of it. -/
theorem body_obligation (c : Dev nD) : BodyObligation (dats (F := F) m 0 c) (defs₀ (F := F)) 𝒱₀ 0 Set.univ := fun t => by
  rw [fin_N0 t]
  rw [bigSep_W0, bigSep_W0]
  simp only [stg_owns]
  show bodyPre m c ⊢ WP c (theBody (F := F)) (fun _ => bodyPost m c)
  exact sound m c

end Cert.KProof

end
-- ==== Proof.Launch.lean ====
/-
  The run: from any memory with zero counters every execution of the program ends, with
  the arguments unchanged, the result on every device and every counter at zero.
-/
module

public import proofs.«01_k».proof.Proof.Region

@[expose] public section

set_option maxRecDepth 16384

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The call as a segment -/

/-- The buffers the call's windows do not reach. -/
def restRefs : Finset (DevRef τ sig) := Pipeline.ucRefs τ sig \ Pipeline.arrRefs (τ := τ) (pcfgs (F := F) 0).spec

/-- The result is not among the buffers that the windows do not reach. -/
theorem rest_ne {b : DevRef τ sig} (hb : b ∈ restRefs (F := F)) : b ≠ Proc.devRef .tc main_v29 := fun h => by
  subst h
  refine (Finset.mem_sdiff.mp hb).2 ?_
  exact Finset.mem_map_of_mem _ (Finset.mem_image_of_mem (Pipeline.arrRef (pcfgs (F := F) 0).spec) (Finset.mem_univ (3 : Fin 4)))

/-- A device's buffers are those of the windows and the rest. -/
theorem held_split (c : Dev nD) (V : Valuation τ sig (Elt F)) :
    (StableHlo.held (c : Thread nD τ) (Pipeline.ucRefs τ sig) V : sProp 𝕄)
      = iprop(StableHlo.held (c : Thread nD τ) (Pipeline.arrRefs (τ := τ) (pcfgs (F := F) 0).spec) V ∗ StableHlo.held (c : Thread nD τ) (restRefs (F := F)) V) :=
  StableHlo.held_sub_split (c : Thread nD τ) (Pipeline.arrRefs_sub_ucRefs spec0 (by decide)) V

/-- No buffer held is nothing held. -/
theorem held_none (c : Dev nD) (V : Valuation τ sig (Elt F)) : (StableHlo.held (c.tc : Thread nD τ) ∅ V : sProp 𝕄) = BI.emp := by
  unfold StableHlo.held; exact BI.bigSep_empty

/-- A receive buffer as one location at some contents. -/
theorem bufAny_eq (c : Dev nD) (d : Bool) : (bufAny c d : sProp 𝕄)
    = iprop(∃ f : Buf (Elt F) ((c : Thread nD τ).loc (if d then cc0_scratch1 else cc0_scratch0)), ((c : Thread nD τ).loc (if d then cc0_scratch1 else cc0_scratch0)) ↦{fullShare} f) := by
  unfold bufAny
  cases d <;> exact congrArg BIBase.exists (funext fun w => owns_whole ..)

/-- What the call allots besides the windows: the two receive buffers. -/
theorem rest_eq (c : Dev nD) : (Pipeline.scopedRest (Ix := ℕ) (Name := ℕ) (U := UU) (Lvl := ℕ) (Val := Elt F) spec0 c : sProp 𝕄) = iprop(bufAny c false ∗ bufAny c true) := by
  rw [scopedRest0_eq, bufAny_eq, bufAny_eq]; rfl

/-- At its start the call owes what a device owes at launch. -/
theorem owed_zero (c : Dev nD) : (dats m 0 c).owed 0 = O₀ c := rfl

/-- The resources at the call's start make the body's entry state. -/
theorem hin (c : Dev nD) : iprop(Pipeline.scopedRest (Pipeline.pin (pcfgs (F := F)) adm 0).spec c ∗ (∃ r, prngReg c r) ∗ StableHlo.held (c.tc : Thread nD τ) ∅ (V1 m c) ∗ Xk (part m) c)
    ⊢ (dats m 0 c).Φ 0 := by
  rw [show (dats m 0 c).Φ 0 = Φ₀ m c from rfl]
  rw [show (Pipeline.scopedRest (Pipeline.pin (pcfgs (F := F)) adm 0).spec c : sProp 𝕄) = iprop(bufAny c false ∗ bufAny c true) from rest_eq c]
  unfold Φ₀
  iintro ⟨⟨H0, H1⟩, Hp, -, HX⟩
  isplitl [HX]; · iexact HX
  isplitl [H0]; · iexact H0
  isplitl [H1]; · iexact H1
  iexact Hp

/-- The body's final state gives back what the call must return. -/
theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ semVal (barC c) 0) := by
  rw [show (dats m 0 c).Φ (Fin.last (Pipeline.pin (pcfgs (F := F)) adm 0).N) = Φ₁ c from rfl, held_none, ownSems_eq]
  rw [show (Pipeline.scopedRest (Pipeline.pin (pcfgs (F := F)) adm 0).spec c : sProp 𝕄) = iprop(bufAny c false ∗ bufAny c true) from rest_eq c]
  unfold Φ₁
  iintro ⟨Hb, Hz, H0, H1, Hp⟩
  isplitl [H0 H1]; · isplitl [H0] <;> iassumption
  isplitl [Hp]; · iexact Hp
  isplitr; · iempintro
  isplitl [Hz]; · iexact Hz
  iexact Hb

/-- The windows' semaphores have no role in the ring. -/
theorem win_role : ∀ (w : Fin 4) (s : Fin (win0 w).nbuf), lvOf 0 (role (.dma ((win0 w).sem s))) = 0 := by decide

/-- All that the body owes lies above the windows' own waits. -/
theorem owed_above (c : Dev nD) (t : Fin (cfg0.N + 1)) : Above ((dats m 0 c).owed t) 0 := by
  obtain ⟨t, ht⟩ := t
  cases t with
  | zero => exact above_O₀ c
  | succ t => exact Above.zero 0

/-- The result's array after the call. -/
theorem arr3_last (c : Dev nD) : (dats m 0 c).arrAt (3 : Fin 4) cfg0.N = res m := by
  have h : (dats m 0 c).arrAt (3 : Fin 4) cfg0.N = (dats m 0 c).arrAt (3 : Fin 4) (((0 : Fin 1)).val + 1) := rfl
  rw [h, (dats m 0 c).arrAt_succ (3 : Fin 4) (0 : Fin 1), if_pos (by decide)]
  refine (read3 _).symm.trans ?_
  exact View.read_write_univ _ _

/-- After the call every window's array is as claimed. -/
theorem arr_last (c : Dev nD) (w : Fin 4) : (dats m 0 c).arrAt w cfg0.N = V2 m (outs m) c (Proc.devRef .tc (Pipeline.arrRef spec0 w)) := by
  fin_cases w
  · exact ((dats m 0 c).arrAt_in (0 : Fin 4) rfl _).trans (V2_of m (outs m) c main_arg0 (by decide)).symm
  · exact ((dats m 0 c).arrAt_in (1 : Fin 4) rfl _).trans (V2_of m (outs m) c main_arg1 (by decide)).symm
  · exact ((dats m 0 c).arrAt_in (2 : Fin 4) rfl _).trans (V2_of m (outs m) c main_v28 (by decide)).symm
  · exact (arr3_last m c).trans (V2_out m c).symm

set_option backward.isDefEq.respectTransparency.types false in
/-- The kernel's call. -/
def region : Pipeline.RegionSeg (pcfgs (F := F)) adm (dats m) 0 defs₀ 𝒱₀ L lv 0 :=
  Pipeline.RegionSeg.ofTalk (pcfgs (F := F)) adm (dats m) 0 defs₀ 𝒱₀ L lv 0 osem osem_facts
    ∅ (restRefs (F := F)) (Finset.empty_subset _) launch0.toP rfl (fun c => (body_obligation m c).loose)
    (fun _ => 0) O₀ (fun c => (owed_zero m c).trans (zero_add _).symm) (fun _ => rfl) (fun _ => rfl) (fun c w => share_eq m c w)
    (V1 m) (V2 m (outs m)) (fun c b hb => Function.update_of_ne (rest_ne (F := F) (Finset.mem_sdiff.mp hb).1) _ _)
    (Tk (part m)) (fun c => semVal (barC c) 0) (Xk (part m)) (fun c => semVal (barC c) 0) (hopen (part m)) (hin m) (hout m)
    (fun c => by iintro H; imodintro; iexact H)
    (fun _ => 0)
    ⟨fun c w s => by rw [L_tc]; decide, fun c w s => (win_role w s).le, fun c t g i h => owed_above m c t g i h⟩
    (fun _ => iprop(emp))
    (fun c w => rfl) (fun c w => arr_last m c w)

/-- What rides beside the buffers up to the call, and from it on. -/
def E : Fin 2 → Dev nD → sProp 𝕄
  | 0, c => iprop(Tk (part m) c ∗ owesE c (O₀ c) ∗ ∃ r, prngReg c r)
  | 1, c => iprop(semVal (barC c) 0 ∗ owesE c 0)

/-- The buffers and what rides beside them enter the call. -/
theorem region_pre (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (restRefs (F := F)) (V1 m c) ∗ emp) ∗ Tk (part m) c ∗ ∃ Wd, owes (c : Thread nD τ) (0 + O₀ c) Wd)
  rw [zero_add, held_split]
  unfold E owesE
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

/-- The call leaves the buffers, the result among them, and what rides beside them. -/
theorem region_post (c : Dev nD) : (region m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (restRefs (F := F)) (V2 m (outs m) c) ∗ emp) ∗ semVal (barC c) 0 ∗ ∃ Wd, owes (c : Thread nD τ) (0 : CellTallies nD τ sig ℕ) Wd) ⊢ _
  rw [held_split]
  unfold E owesE
  iintro ⟨Ha, -, ⟨Hr, -⟩, Hb, HO⟩
  isplitl [Ha Hr]; · isplitl [Ha] <;> iassumption
  isplitl [Hb]; · iexact Hb
  iexact HO

/-! ## The launch -/

/-- The ghost state of the whole run: the windows' cells and the ring's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The ring's share of it. -/
def ringState : sProp 𝕄 := BI.own (ER (launchOf barCells scCells talkToks))
/-- Which the first device keeps until it is dealt. -/
def G (c : Dev nD) : sProp 𝕄 := if c = 0 then ringState else iprop(emp)

/-- Over all devices the shares make the ring's ghost state. -/
theorem G_all : bigSep Finset.univ (G (F := F)) = ringState := by
  have h : bigSep (Finset.univ.erase (0 : Dev nD)) (G (F := F)) = BI.emp :=
    (bigSep_congr fun c hc => (if_neg (Finset.ne_of_mem_erase hc) : G (F := F) c = BI.emp)).trans (BI.bigSep_emp_const _)
  rw [bigSep_univ_at _ (0 : Dev nD), h]
  exact BI.equiv_iff.mp sep_emp

/-- The launch's ghost state splits into that of the staged copies and the ring's. -/
theorem launch_state : (ownU (u₀ (F := F)) : sProp 𝕄) ⊢ |={Set.univ}=> iprop(BI.own (EP (initOf (Pipeline.cells (Pipeline.pin (pcfgs (F := F)) adm) cellOf_inj)
      (Pipeline.launchToks (Pipeline.pin (pcfgs (F := F)) adm) cellOf_inj))) ∗ bigSep Finset.univ (G (F := F))) := by
  rw [G_all]
  unfold u₀ ringState
  iintro Hu
  ihave H := (ownU_pair _ _) $$ Hu
  icases H with ⟨HP, HX⟩
  imodintro
  isplitl [HP]; · iexact HP
  iexact HX

/-- The barrier's semaphore is the only one that outlives the call. -/
theorem unscoped_bar : ∀ sm : SemLoc sig, sm.isScoped .tc = false → sm = .reg barS := by decide

/-- So at launch a device's lasting counters are the barrier's, at zero. -/
theorem unscoped_eq (c : Dev nD) : (unscopedSems0 c : sProp 𝕄) = semVal (barC c) 0 := by
  unfold unscopedSems0
  rw [show (Finset.univ.filter fun sm : SemLoc sig => ¬ sm.isScoped .tc) = {.reg barS} from by decide, BI.bigSep_singleton]

/-- A device's holdings at the launch, but for the ring's. -/
def bundle (c : Dev nD) : sProp 𝕄 :=
  iprop(StableHlo.held (c : Thread nD τ) (Pipeline.ucRefs τ sig) (V0 m c) ∗ Pipeline.launchCred O₀ c ∗ owesE c (O₀ c) ∗ ∃ r, prngReg c r)

variable (ρ : Dev nD → PrngReg)

/-- Everything dealt out: each device its buffers and what it carries to the call. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((semVal (barC c) 0 ∗ G c) ∗ bundle m c) : sProp 𝕄) := by
    rw [unscoped_eq]
    unfold bundle owesE
    rw [← Pipeline.unscopedBufs_held (Ix := ℕ) (Name := ℕ) (U := UU) (Lvl := ℕ) c (V0 m c)]
    iintro ⟨Hh, Hb, HO, Hc, Hp, HG⟩
    isplitl [Hb HG]; · isplitl [Hb] <;> iassumption
    isplitl [Hh]; · iexact Hh
    isplitl [Hc]; · iexact Hc
    isplitl [HO]; · iexists ∅; iexact HO
    iexists (ρ c); iexact Hp
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(((bigSep Finset.univ fun c : Dev nD => semVal (barC c) 0) ∗ ringState)
        ∗ bigSep Finset.univ fun c : Dev nD => bundle m c) : sProp 𝕄) := by
    refine BIBase.Entails.trans (bigSep_mono fun c _ => hcore c) (Entails.of_eq ?_)
    rw [bigSep_sep', bigSep_sep', G_all]
  have hone (κ : GSem nD τ sig → ℕ) (c : Dev nD) : iprop(records (part m) κ ∗ (linear c ∗ bundle m c))
      ⊢ (iprop(StableHlo.held (c : Thread nD τ) (Pipeline.ucRefs τ sig) (V0 m c) ∗ E m 0 c) : sProp 𝕄) := by
    unfold E bundle
    iintro ⟨HR, Hl, Hh, Hc, HO, Hp⟩
    isplitl [Hh]; · iexact Hh
    isplitl [HR Hl Hc]
    · iapply (Tk_intro (part m) κ c)
      isplitl [HR]; · iexact HR
      isplitl [Hl] <;> iassumption
    isplitl [HO] <;> iassumption
  iintro ⟨H, -⟩
  ihave H' := hall $$ H
  icases H' with ⟨HF, HB⟩
  unfold ringState
  imod (fund (part m)) $$ HF with ⟨%κ, HR, HL⟩
  imodintro
  iapply (bigSep_with_persistent (R := records (part m) κ) fun c _ => hone κ c)
  isplitl [HR]; · iexact HR
  iapply (show iprop(bigSep Finset.univ linear ∗ bigSep Finset.univ (bundle m)) ⊢ (bigSep Finset.univ fun c : Dev nD => iprop(linear c ∗ bundle m c) : sProp 𝕄)
    from Entails.of_eq (bigSep_sep' ..).symm)
  isplitl [HL]; · iexact HL
  iexact HB

/-- What a final state holds of a device: its arguments as launched, the result, its barrier's counter at zero. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v29) = res m) ∧ s.sem (barC c) = 0

/-- What a device holds at the end determines its memory and its barrier counter. -/
theorem final (c : Dev nD) (s' : Phys nD τ sig (Elt F)) :
    iprop((StableHlo.held (c : Thread nD τ) (Pipeline.ucRefs τ sig) (V2 m (outs m) c) ∗ semVal (barC c) 0) ∗ SI s')
      ⊢ (|={Set.univ}=> iprop(⌜Final m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_v29) (Finset.mem_filter.mpr ⟨StableHlo.devRef_mem_tcRefs main_v29, by decide⟩)).trans (V2_out m c)⟩, by simpa using hb⟩
  · iexact HSI

set_option backward.isDefEq.respectTransparency.types false in
/-- The run: it ends, with the arguments unchanged, the same result on every device, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v29) = res m) ∧ r.2.sem = fun _ => 0) :=
  Pipeline.θ_run_regions_kit_dev_sems (pcfgs (F := F)) adm (dats m) 0 cellOf_inj EP defs₀ 𝒱₀ L lv m ρ main
    (segs m 𝒱₀ L lv (E m) 0 (dats m) (region m))
    (fun c Q => by
      rewrite [main_chain c, Pipeline.Seg.run_eq_chain,
        show (segs m 𝒱₀ L lv (E m) 0 (dats m) (region m) c).map Pipeline.Seg.prog = [
          StableHlo.seq (hostOps0 c),
          Prog.lift (.customCall (Pipeline.entry 0) ()) ] from rfl]
      exact .rfl)
    (fun c => by simp only [segs, Pipeline.Seg.pipes_host, Pipeline.Seg.pipes_region, Pipeline.Seg.pipes_nil]; decide) O₀ L_of_ne G u₀ launch_state
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barC c) 0))
    (hch := fun c => ⟨.rfl, region_pre m c, (region_post m c).trans (by
      unfold E owesE
      iintro ⟨Hh, Hb, HO⟩
      isplitl [Hh Hb]; · isplitl [Hh] <;> iassumption
      iexact HO)⟩)
    (hinit := init m ρ) (QY := Final m) (hfin := final m)
    (hQ := fun s h hs => ⟨fun c => (h c).1, sem_eq_zero hs fun c sm hsm => by
      obtain rfl := unscoped_bar sm hsm
      exact (h c).2⟩)

end Cert.KProof

end
-- ==== Proof.Sums.lean ====
/-
  The ring's partial sums at the ideal values: a chunk's partial sum after every hop is the sum of that
  chunk over all devices, and the result at each index is the activation of the sum over all devices.
-/
module

public import proofs.«01_k».proof.Proof.Split
public import Idealize.ShloMosaic.Lib.KernelVsHost
public import Idealize.ShloMosaic.Lib.Pipeline.Value

@[expose] public section

set_option maxRecDepth 16384

noncomputable section

namespace Cert.KProof

open Idealize.ShloMosaic Idealize.ShloMosaic.TcCoe
open Cert.KernelIdeal Cert.KernelIdeal.Gen
open scoped BigOperators

/-! ## The order in which the ring adds -/

/-- The devices taken backwards along a direction start at the device itself. -/
theorem ringAt_ck_zero (d : Bool) (c : Dev nD) : ringAt (ck d c 0) = c := by
  have h : ∀ (d : Bool) (p : Fin 32), (if d then p + Fin.ofNat 32 0 else p - Fin.ofNat 32 0) = p := by decide +kernel
  unfold ck; rw [h, ringAt_pos]

variable (X : Dev nD → Vec Ideal S2048x2048 .f32)

/-- The partial sum a device holds after some hops, at an index: the chunk's rows of the devices passed so far. -/
theorem acc_apply (d : Bool) (j : S32x2048.Idx) : ∀ (h : ℕ) (c : Dev nD),
    (acc X d h c j : EReal) = ∑ i ∈ Finset.range (h + 1), (chunkV (X (ringAt (ck d c i))) d (ck d c h) j : EReal)
  | 0, c => by
    rw [Finset.sum_range_one, ringAt_ck_zero]; rfl
  | h + 1, c => by
    rw [Finset.sum_range_succ', ringAt_ck_zero]
    have ih := acc_apply d j h (prv d c)
    simp only [ck_prv] at ih
    rw [← ih]
    exact add_comm (chunkV (X c) d (ck d c (h + 1)) j : EReal) (acc X d h (prv d c) j : EReal)

/-- The positions of the ring, one for each device. -/
def ringEquiv : Fin 32 ≃ Dev nD := ⟨ringAt, pos, pos_ringAt, ringAt_pos⟩

/-- The complete sum of a chunk, at an index: the chunk's rows of every device, in any order. -/
theorem acc_full (d : Bool) (k : Fin 32) (j : S32x2048.Idx) :
    (acc X d 31 (owner d k) j : EReal) = ∑ e : Dev nD, (X e ((crect d k).emb j) : EReal) := by
  have hk : ck d (owner d k) 31 = k := by
    have h : ∀ (d : Bool) (k : Fin 32), ck d (owner d k) 31 = k := by decide +kernel
    exact h d k
  rw [acc_apply, hk, Finset.sum_range, ← Equiv.sum_comp ((ckEquiv d (owner d k)).trans ringEquiv) fun e : Dev nD => (X e ((crect d k).emb j) : EReal)]
  rfl

/-- The activation of one value. -/
def silu (z : Ideal .f32) : Ideal .f32 :=
  FloatOps.hostDivf z (FloatOps.addf (FloatOps.ofBits .f32 0x3F800000#32) (FloatOps.hostUnary .exp (FloatOps.hostNegf z)))

/-- A finished chunk at an index is the activation of its sum. -/
theorem pay1_apply (v : Vec Ideal S32x2048 .f32) (j : S32x2048.Idx) : k0_pay1 v j = silu (v j) := by
  have e : shapeCast (α := Ideal .f32) S32x2048 v shapeCasts_S32x2048_S32x2048 = v := shapeCast_self ..
  show FloatOps.divf (φ := .f32) (shapeCast (α := Ideal .f32) S32x2048 v shapeCasts_S32x2048_S32x2048 j) (FloatOps.addf (FloatOps.ofBits .f32 0x3F800000#32)
    (FloatOps.exp (FloatOps.subf (FloatOps.ofBits .f32 0x00000000#32) (shapeCast (α := Ideal .f32) S32x2048 v shapeCasts_S32x2048_S32x2048 j)))) = _
  rw [e, Ideal.subf_zero_eq_hostNegf]
  rfl

/-- The result at each index is the activation of the sum over all devices. -/
theorem resV_apply (i : S2048x2048.Idx) : resV X i = silu (∑ e : Dev nD, (X e i : EReal) : EReal) := by
  obtain ⟨t, -, ht⟩ := Finset.mem_biUnion.mp (crect_cover ▸ Finset.mem_univ i)
  rw [← Rect.map_emb_univ] at ht
  obtain ⟨j, -, rfl⟩ := Finset.mem_map.mp ht
  rw [resV_emb]
  show k0_pay1 (acc X t.1 31 (owner t.1 t.2)) j = _
  rw [pay1_apply]
  exact congrArg silu (acc_full X t.1 t.2 j)

end Cert.KProof

end
-- ==== Proof.Value.lean ====
/-
  The value: the result is the activation of the product of the whole arrays, the reference's term.
-/
module

public import proofs.«01_k».proof.Proof.Sums
public import proofs.«01_k».proof.Proof.Gen.ReferenceIdeal
public import Idealize.ShloMosaic.Lib.StackMember
public import Idealize.ShloMosaic.Lib.IdealHost
public import Idealize.ShloMosaic.Lib.Layout

@[expose] public section

set_option maxRecDepth 16384

noncomputable section

namespace Cert.KProof

open Idealize.ShloMosaic Idealize.ShloMosaic.TcCoe Idealize.ShloMosaic.ValueIdx
open Cert.KernelIdeal Cert.KernelIdeal.Gen
open scoped BigOperators

/-- The first argument, whole. -/
abbrev WholeA := FVec Ideal ⟨2, ![2048, 32768]⟩ .f32
/-- The second argument, whole. -/
abbrev WholeB := FVec Ideal ⟨2, ![32768, 2048]⟩ .f32

/-- A sum over the long axis is the sum over the devices of the sums over their blocks. -/
theorem sum_blocks (f : Fin 32768 → EReal) :
    ∑ e : Fin 32, ∑ k : Fin 1024, f ⟨e.val * 1024 + k.val, by have := e.isLt; have := k.isLt; omega⟩ = ∑ i : Fin 32768, f i := by
  rw [← Fintype.sum_prod_type' (f := fun (e : Fin 32) (k : Fin 1024) => f ⟨e.val * 1024 + k.val, by have := e.isLt; have := k.isLt; omega⟩),
    ← Equiv.sum_comp (finProdFinEquiv (m := 32) (n := 1024)) f]
  refine Finset.sum_congr rfl fun x _ => congrArg f (Fin.ext ?_)
  show x.1.val * 1024 + x.2.val = x.2.val + 1024 * x.1.val
  omega

/-- A device's product at an index: the sum over its block of the long axis. -/
theorem pay7_apply (A : Vec Ideal S2048x1024 .f32) (B : Vec Ideal S1024x2048 .f32) (r c : Fin 2048) :
    (k0_pay7 A B (ix2 r c) : EReal) = ∑ k : Fin 1024, (A (ix2 r k) : EReal) * (B (ix2 k c) : EReal) := by
  have eA : shapeCast (α := Ideal .f32) S2048x1024 A shapeCasts_S2048x1024_S2048x1024 = A := shapeCast_self ..
  have eB : shapeCast (α := Ideal .f32) S1024x2048 B shapeCasts_S1024x2048_S1024x2048 = B := shapeCast_self ..
  show matmul (DotDims.plain 2048 1024 2048) none (shapeCast (α := Ideal .f32) S2048x1024 A shapeCasts_S2048x1024_S2048x1024)
    (shapeCast (α := Ideal .f32) S1024x2048 B shapeCasts_S1024x2048_S1024x2048) (constant S2048x2048 .f32 0x00000000#32) (ix2 r c) = _
  rw [eA, eB, matmul_zero_eq_dotGeneral, StackMember.dotGeneral_plain_apply]

/-- The product of the whole arrays at an index. -/
theorem whole_apply (A : WholeA) (B : WholeB) (r c : Fin 2048) :
    (Host.dotGeneral Cert.ReferenceIdeal.dot_S2048x32768_S32768x2048_S2048x2048_1_0_0_1_n_n none A B (ix2 r c) : EReal)
      = ∑ i : Fin 32768, (A (ix2 r i) : EReal) * (B (ix2 i c) : EReal) :=
  StackMember.dotGeneral_plain_apply none A B r c

/-- The devices' products of their blocks sum to the product of the whole arrays. -/
theorem sum_products (A : WholeA) (B : WholeB) (r c : Fin 2048) :
    ∑ e : Dev nD, (k0_pay7 (F := Ideal) (Layout.block ⟨2, ![2048, 1024]⟩ ⟨2, ![2048, 32768]⟩ 1 32 e A)
        (Layout.block ⟨2, ![1024, 2048]⟩ ⟨2, ![32768, 2048]⟩ 0 32 e B) (ix2 r c) : EReal)
      = Host.dotGeneral Cert.ReferenceIdeal.dot_S2048x32768_S32768x2048_S2048x2048_1_0_0_1_n_n none A B (ix2 r c) := by
  rw [whole_apply, ← sum_blocks]
  refine Finset.sum_congr rfl fun e _ => ?_
  rw [pay7_apply]
  refine Finset.sum_congr rfl fun k _ => ?_
  have hA : (Layout.block ⟨2, ![2048, 1024]⟩ ⟨2, ![2048, 32768]⟩ 1 32 e A) (ix2 r k)
      = A (ix2 r ⟨e.val * 1024 + k.val, by have := e.isLt; have := k.isLt; simp only [nD] at *; omega⟩) :=
    congrArg A (funext fun a => by match a with | ⟨0, _⟩ => rfl | ⟨1, _⟩ => rfl)
  have hB : (Layout.block ⟨2, ![1024, 2048]⟩ ⟨2, ![32768, 2048]⟩ 0 32 e B) (ix2 k c)
      = B (ix2 ⟨e.val * 1024 + k.val, by have := e.isLt; have := k.isLt; simp only [nD] at *; omega⟩ c) :=
    congrArg B (funext fun a => by match a with | ⟨0, _⟩ => rfl | ⟨1, _⟩ => rfl)
  exact congrArg₂ (fun x y : EReal => x * y) hA hB

/-- The reference's result as a term of the whole arrays. -/
def refV (A : WholeA) (B : WholeB) : FVec Ideal S2048x2048 .f32 :=
  Host.divf (Host.dotGeneral Cert.ReferenceIdeal.dot_S2048x32768_S32768x2048_S2048x2048_1_0_0_1_n_n none A B)
    (addf (broadcastInDim Cert.ReferenceIdeal.S2048x2048 ![] Cert.ReferenceIdeal.Gen.bcast_S_S2048x2048 (constant Cert.ReferenceIdeal.S_ .f32 0x3F800000#32))
      (Host.exp (Host.negf (Host.dotGeneral Cert.ReferenceIdeal.dot_S2048x32768_S32768x2048_S2048x2048_1_0_0_1_n_n none A B))))

/-- The reference's result at an index is the activation of the product. -/
theorem refV_apply (A : WholeA) (B : WholeB) (i : S2048x2048.Idx) :
    refV A B i = silu (Host.dotGeneral Cert.ReferenceIdeal.dot_S2048x32768_S32768x2048_S2048x2048_1_0_0_1_n_n none A B i) := rfl

/-- When every device's operands are its blocks of the whole arrays, the kernel's result is the reference's. -/
theorem resV_eq (A : WholeA) (B : WholeB) :
    resV (F := Ideal) (fun e : Dev nD => k0_pay7 (F := Ideal) (Layout.block ⟨2, ![2048, 1024]⟩ ⟨2, ![2048, 32768]⟩ 1 32 e A)
        (Layout.block ⟨2, ![1024, 2048]⟩ ⟨2, ![32768, 2048]⟩ 0 32 e B)) = refV A B := by
  funext i
  obtain ⟨r, c, rfl⟩ : ∃ (r : Fin 2048) (c : Fin 2048), i = ix2 r c := ⟨i 0, i 1, eq_ix2 i⟩
  rw [resV_apply, refV_apply]
  exact congrArg silu (sum_products A B r c)

end Cert.KProof

end
-- ==== Proof.lean ====
/-
  The proof of the claim: the kernel's run over bit patterns and over ideal values, the reference's run, and
  the equality of their results at the ideal values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

set_option maxRecDepth 16384

noncomputable section

namespace Cert.KProof

open Idealize.ShloMosaic Idealize.ShloMosaic.TcCoe Idealize.SL.Sem

/-- The two programs have one text, so their kernels' tables agree. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- The two programs' tables agree. -/
theorem defs_eq : Cert.Kernel.defs (F := Bits) = Cert.KernelIdeal.defs (F := Bits) :=
  congrArg (Pipeline.defs Cert.KernelIdeal.pcfgs) defs₀_eq

set_option maxHeartbeats 4000000 in
/-- The two programs' entry functions agree. -/
theorem main_eq : Cert.Kernel.main (F := Bits) = Cert.KernelIdeal.main (F := Bits) := rfl

/-- The kernel over bit patterns ends with its arguments unchanged and every counter at zero. -/
theorem frame_kernel : Cert.quiescent_Kernel := by
  intro m ρ _
  rw [defs_eq, main_eq]
  exact (θ_run Cert.KernelIdeal.defs _ _).mono (fun _ h => ⟨fun c => ⟨(h.1 c).1, (h.1 c).2.1⟩, h.2⟩) (run_main (F := Bits) m ρ)

/-- The kernel over ideal values ends with its arguments unchanged and every counter at zero. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference ends with its arguments unchanged and every counter at zero. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- On blocks of the reference's arrays every device's result is the reference's. -/
theorem value : Cert.algebraic_KernelIdeal_ReferenceIdeal := by
  intro m ρ m' ρ' _ h
  refine ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · have e : res (F := Ideal) m = refV (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) := by
      rw [← resV_eq]
      show resV (part m) = _
      refine congrArg resV (funext fun c => ?_)
      exact congrArg₂ Cert.KernelIdeal.Gen.k0_pay7 (h c).1 (h c).2
    exact (θ_run Cert.KernelIdeal.defs _ _).mono (fun _ q c => ⟨(q.1 c).2.2.trans e, (q.1 c).1, (q.1 c).2.1⟩) (run_main (F := Ideal) m ρ)
  · exact (θ_run Cert.ReferenceIdeal.defs _ _).mono (fun _ q => q 0) (Cert.ReferenceIdeal.Value.run (F := Ideal) m' ρ')

end Cert.KProof

namespace Cert.Proof

/-- Everything claimed. -/
theorem claim : Cert.Claim :=
  ⟨Cert.Kernel.Gen.facts, Cert.KernelIdeal.Gen.facts, Cert.ReferenceIdeal.Gen.facts,
    Cert.KProof.frame_kernel, Cert.KProof.frame_ideal, Cert.KProof.frame_reference, trivial, Cert.KProof.value⟩

end Cert.Proof

end
